-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.BufferStatement Cert.KernelIdeal.S64x2x8192 Cert.KernelIdeal.S64x1x8192
  ∧ IdealRules.bf16_pair.Statement Cert.KernelIdeal.S128x256 Cert.KernelIdeal.S64x256
  ∧ IdealRules.bf16_pair.Statement Cert.KernelIdeal.S64x2x256 Cert.KernelIdeal.S64x1x256

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x1x8192 : Shape := ⟨3, ![128, 1, 8192]⟩
abbrev S4096x22528 : Shape := ⟨2, ![4096, 22528]⟩
abbrev S128x22528 : Shape := ⟨2, ![128, 22528]⟩
abbrev S128x88 : Shape := ⟨2, ![128, 88]⟩
abbrev S_ : Shape := ⟨0, ![]⟩
abbrev S1 : Shape := ⟨1, ![1]⟩
abbrev S128x8192 : Shape := ⟨2, ![128, 8192]⟩
abbrev S4096x256 : Shape := ⟨2, ![4096, 256]⟩
abbrev S128x256 : Shape := ⟨2, ![128, 256]⟩
abbrev S64x8192 : Shape := ⟨2, ![64, 8192]⟩
abbrev S256x256 : Shape := ⟨2, ![256, 256]⟩
abbrev S64x256 : Shape := ⟨2, ![64, 256]⟩
abbrev S128 : Shape := ⟨1, ![128]⟩
abbrev S128x1 : Shape := ⟨2, ![128, 1]⟩
abbrev S16x128 : Shape := ⟨2, ![16, 128]⟩
abbrev S1x128 : Shape := ⟨2, ![1, 128]⟩
abbrev S32x128 : Shape := ⟨2, ![32, 128]⟩
abbrev S8x128 : Shape := ⟨2, ![8, 128]⟩
abbrev S16x128x1 : Shape := ⟨3, ![16, 128, 1]⟩
abbrev S256x128 : Shape := ⟨2, ![256, 128]⟩

abbrev nBuf : Space → Nat
  | .hbm => 8
  | .vmem => 10
  | .smem => 1
  | _ => 0

abbrev bufTy : (tb : Table) → Fin (tcTables nBuf tb) → BufTy
  | .hbm, ⟨0, _⟩ => ⟨S128x1x8192, .bf16⟩
  | .hbm, ⟨1, _⟩ => ⟨S4096x22528, .i8⟩
  | .hbm, ⟨2, _⟩ => ⟨S128x22528, .i8⟩
  | .hbm, ⟨3, _⟩ => ⟨S128x88, .f32⟩
  | .hbm, ⟨4, _⟩ => ⟨S_, .f32⟩
  | .hbm, ⟨5, _⟩ => ⟨S1, .f32⟩
  | .hbm, ⟨6, _⟩ => ⟨S128x8192, .bf16⟩
  | .hbm, ⟨7, _⟩ => ⟨S128x22528, .bf16⟩
  | .local _ .vmem, ⟨0, _⟩ => ⟨S128x8192, .bf16⟩
  | .local _ .vmem, ⟨1, _⟩ => ⟨S4096x256, .i8⟩
  | .local _ .vmem, ⟨2, _⟩ => ⟨S4096x256, .i8⟩
  | .local _ .vmem, ⟨3, _⟩ => ⟨S128x256, .i8⟩
  | .local _ .vmem, ⟨4, _⟩ => ⟨S128x256, .i8⟩
  | .local _ .vmem, ⟨5, _⟩ => ⟨S128x88, .f32⟩
  | .local _ .vmem, ⟨6, _⟩ => ⟨S128x256, .bf16⟩
  | .local _ .vmem, ⟨7, _⟩ => ⟨S128x256, .bf16⟩
  | .local _ .vmem, ⟨8, _⟩ => ⟨S64x8192, .i32⟩
  | .local _ .vmem, ⟨9, _⟩ => ⟨S128x256, .f32⟩
  | .local _ .smem, ⟨0, _⟩ => ⟨S1, .f32⟩
  | _, _ => ⟨S128x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [BitOps F]

abbrev grid0 : Pipeline.Grid := ⟨1, ![88], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x88 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
abbrev S64x2x8192 : Shape := ⟨3, ![64, 2, 8192]⟩
abbrev S64x1x8192 : Shape := ⟨3, ![64, 1, 8192]⟩
abbrev S64x2x256 : Shape := ⟨3, ![64, 2, 256]⟩
abbrev S64x1x256 : Shape := ⟨3, ![64, 1, 256]⟩
  | .local _ .vmem, ⟨8, _⟩ => ⟨S64x2x8192, .bf16⟩
variable {F : FTy → Type} [FloatOps F]
-- ==== ReferenceIdeal.lean ====
abbrev S128x1x8192 : Shape := ⟨3, ![128, 1, 8192]⟩
abbrev S4096x22528 : Shape := ⟨2, ![4096, 22528]⟩
abbrev S128x22528 : Shape := ⟨2, ![128, 22528]⟩
abbrev S128x88 : Shape := ⟨2, ![128, 88]⟩
abbrev S_ : Shape := ⟨0, ![]⟩
abbrev S128x4096x2 : Shape := ⟨3, ![128, 4096, 2]⟩
abbrev S128x4096x1 : Shape := ⟨3, ![128, 4096, 1]⟩
abbrev S128x4096 : Shape := ⟨2, ![128, 4096]⟩
abbrev S128x88x256 : Shape := ⟨3, ![128, 88, 256]⟩
abbrev S1x1 : Shape := ⟨2, ![1, 1]⟩
abbrev S128x1x22528 : Shape := ⟨3, ![128, 1, 22528]⟩
abbrev S128x32x22528 : Shape := ⟨3, ![128, 32, 22528]⟩

abbrev nBuf : Space → Nat
  | .hbm => 14
  | .vmem => 7
  | .smem => 0
  | _ => 0

abbrev bufTy : (tb : Table) → Fin (tcTables nBuf tb) → BufTy
  | .hbm, ⟨0, _⟩ => ⟨S128x1x8192, .bf16⟩
  | .hbm, ⟨1, _⟩ => ⟨S4096x22528, .i8⟩
  | .hbm, ⟨2, _⟩ => ⟨S128x22528, .i8⟩
  | .hbm, ⟨3, _⟩ => ⟨S128x88, .f32⟩
  | .hbm, ⟨4, _⟩ => ⟨S_, .f32⟩
  | .hbm, ⟨5, _⟩ => ⟨S128x4096x2, .bf16⟩
  | .hbm, ⟨6, _⟩ => ⟨S128x4096x1, .bf16⟩
  | .hbm, ⟨7, _⟩ => ⟨S128x4096, .bf16⟩
  | .hbm, ⟨8, _⟩ => ⟨S128x4096x1, .bf16⟩
  | .hbm, ⟨9, _⟩ => ⟨S128x4096, .bf16⟩
  | .hbm, ⟨10, _⟩ => ⟨S128x88x256, .f32⟩
  | .hbm, ⟨11, _⟩ => ⟨S128x22528, .f32⟩
  | .hbm, ⟨12, _⟩ => ⟨S1x1, .f32⟩
  | .hbm, ⟨13, _⟩ => ⟨S128x22528, .bf16⟩
  | .local _ .vmem, ⟨0, _⟩ => ⟨S128x4096, .bf16⟩
  | .local _ .vmem, ⟨1, _⟩ => ⟨S128x4096, .bf16⟩
  | .local _ .vmem, ⟨2, _⟩ => ⟨S4096x22528, .i8⟩
  | .local _ .vmem, ⟨3, _⟩ => ⟨S128x22528, .i8⟩
  | .local _ .vmem, ⟨4, _⟩ => ⟨S128x22528, .f32⟩
  | .local _ .vmem, ⟨5, _⟩ => ⟨S1x1, .f32⟩
  | .local _ .vmem, ⟨6, _⟩ => ⟨S128x22528, .bf16⟩
  | _, _ => ⟨S128x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x22528 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x22528 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x22528 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x22528 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Frames.lean ====
/- The claims that carry no value: the kernel, its idealization and the reference each run to the end with their
   arguments unchanged, and the rewrites that led from the kernel to its idealization are the rules' own. -/
module

public import proofs.«01_k».proof.Defs
public import proofs.«01_k».proof.Proof.Gen.Kernel.Frame
public import proofs.«01_k».proof.Proof.Gen.KernelIdeal.Frame
public import proofs.«01_k».proof.Proof.Gen.ReferenceIdeal.Frame
public import Idealize.ShloMosaic.Lib.Bf16PairInverse

@[expose] public section

noncomputable section

open Idealize.ShloMosaic Idealize.SL.Sem

namespace Cert.Proof

/-- The kernel runs to the end and leaves its arguments as they were. -/
theorem frame_p : Cert.quiescent_Kernel := fun m ρ _ => Cert.Kernel.Gen.frame m ρ
/-- So does its idealization. -/
theorem frame_pi : Cert.quiescent_KernelIdeal := fun m ρ _ => Cert.KernelIdeal.Gen.frame m ρ
/-- So does the reference. -/
theorem frame_ri : Cert.quiescent_ReferenceIdeal := fun m ρ _ => Cert.ReferenceIdeal.Gen.frame m ρ

/-- The distinct statements of the rewritten sites: the scratch of packed words declared as bf16 pairs, the words
    read as bf16 rows, and the word rectangles of the scratch stored and loaded as pairs of rows. -/
theorem preserves : Cert.preserves_Kernel_KernelIdeal :=
  open Cert.KernelIdeal IdealRules.bf16_pair in
  ⟨bufferStatement S64x2x8192 S64x1x8192, statement S128x256 S64x256, statement S64x2x256 S64x1x256⟩

end Cert.Proof

end
-- ==== Proof.Tile.lean ====
/-
  The work of one grid point of the kernel, written once for a general chunk of 256 weight rows: the table of sixteen
  bf16 values of a block, the four gathers that read the nibbles of the packed bytes, the 256 × 256 weight tile they
  make, and the accumulation over the 32 chunks. The loads are arguments here.
-/
module

public import proofs.«01_k».proof.Proof.Gen.KernelIdeal.Value

@[expose] public section

noncomputable section

namespace Cert.KernelIdeal.Nf4

open Idealize.ShloMosaic Idealize.ShloMosaic.TcCoe Cert.KernelIdeal.Gen

variable {F : FTy → Type} [FloatOps F]

/-- The sixteen NF4 values, one per row, the same in every lane. -/
def column : FVec F S16x128 .f32 :=
  k0_pay55 (iota .tc S16x128 32 [0] iota_S16x128_d0_w32)
    (k0_pay53 (iota .tc S16x128 32 [0] iota_S16x128_d0_w32) k0_pay51 k0_pay52 (Scalar.ofBits .f32 0xBECA32A0#32))
    (k0_pay54 (iota .tc S16x128 32 [0] iota_S16x128_d0_w32)) (Scalar.ofBits .f32 0x3F1007AB#32)

/-- A block's table: every NF4 value times the block's scale, rounded to bf16. -/
def table (a : Vec F S1x128 .f32) : FVec F S16x128 .bf16 :=
  truncf .bf16 (mulf column (broadcastTo S16x128 a broadcasts_S1x128_S16x128)) bitsLt_bf16_f32

/-- Thirty-two packed rows as eight rows of 32-bit words, four bytes to a word. -/
def words (w : Vec F S32x128 .i8) : IVec S8x128 32 := bitcast S8x128 32 w bitcasts_S32x128_w8_S8x128_w32

/-- The 16-bit halves of words, widened with their sign: the low byte of half m is a packed byte. -/
def halves (x : IVec S8x128 32) : IVec S16x128 32 :=
  extsi 32 (bitcast S16x128 16 x bitcasts_S8x128_w32_S16x128_w16) natLt_16_32

/-- The even packed rows, as the low bytes of sixteen words. -/
def half0 (w : Vec F S32x128 .i8) : IVec S16x128 32 := halves (words (F := F) w)

/-- The odd packed rows, as the low bytes of sixteen words. -/
def half1 (w : Vec F S32x128 .i8) : IVec S16x128 32 := halves (shrui (words (F := F) w) (broadcast S8x128 8#32))

/-- The table read at the low four bits. -/
def lowAt (tb : FVec F S16x128 .bf16) (h : IVec S16x128 32) : FVec F S16x128 .bf16 :=
  dynamicGather 0 tb (shapeCast S16x128 (shapeCast S16x128x1 (andi h (broadcast S16x128 15#32)) shapeCasts_S16x128_S16x128x1)
    shapeCasts_S16x128x1_S16x128)

/-- The table read at the next four bits. -/
def highAt (tb : FVec F S16x128 .bf16) (h : IVec S16x128 32) : FVec F S16x128 .bf16 := lowAt tb (shrui h (broadcast S16x128 4#32))

/-- The sixteen weight rows of a block whose number is 0, 1, 2 or 3 modulo four. -/
def part0 (a : Vec F S1x128 .f32) (w : Vec F S32x128 .i8) : FVec F S16x128 .bf16 := lowAt (table a) (half0 (F := F) w)
@[inherit_doc part0] def part1 (a : Vec F S1x128 .f32) (w : Vec F S32x128 .i8) : FVec F S16x128 .bf16 := highAt (table a) (half0 (F := F) w)
@[inherit_doc part0] def part2 (a : Vec F S1x128 .f32) (w : Vec F S32x128 .i8) : FVec F S16x128 .bf16 := lowAt (table a) (half1 (F := F) w)
@[inherit_doc part0] def part3 (a : Vec F S1x128 .f32) (w : Vec F S32x128 .i8) : FVec F S16x128 .bf16 := highAt (table a) (half1 (F := F) w)

/-- 256 weight rows of 128 columns: the four blocks of a chunk, the parts of one number together. -/
def cols (a : Fin 4 → Vec F S1x128 .f32) (w : Fin 4 → Vec F S32x128 .i8) : FVec F S256x128 .bf16 :=
  concatenate S256x128 0
    [⟨S16x128, part0 (a 0) (w 0)⟩, ⟨S16x128, part0 (a 1) (w 1)⟩, ⟨S16x128, part0 (a 2) (w 2)⟩, ⟨S16x128, part0 (a 3) (w 3)⟩,
     ⟨S16x128, part1 (a 0) (w 0)⟩, ⟨S16x128, part1 (a 1) (w 1)⟩, ⟨S16x128, part1 (a 2) (w 2)⟩, ⟨S16x128, part1 (a 3) (w 3)⟩,
     ⟨S16x128, part2 (a 0) (w 0)⟩, ⟨S16x128, part2 (a 1) (w 1)⟩, ⟨S16x128, part2 (a 2) (w 2)⟩, ⟨S16x128, part2 (a 3) (w 3)⟩,
     ⟨S16x128, part3 (a 0) (w 0)⟩, ⟨S16x128, part3 (a 1) (w 1)⟩, ⟨S16x128, part3 (a 2) (w 2)⟩, ⟨S16x128, part3 (a 3) (w 3)⟩]
    concatenates_S16x128_S16x128_S16x128_S16x128_S16x128_S16x128_S16x128_S16x128_S16x128_S16x128_S16x128_S16x128_S16x128_S16x128_S16x128_S16x128_S256x128_d0

/-- The weight tile of a chunk: two column halves side by side. -/
def tile (a : Fin 4 → Fin 2 → Vec F S1x128 .f32) (w : Fin 4 → Fin 2 → Vec F S32x128 .i8) : FVec F S256x256 .bf16 :=
  concatenate S256x256 1 [⟨S256x128, cols (fun b => a b 0) (fun b => w b 0)⟩, ⟨S256x128, cols (fun b => a b 1) (fun b => w b 1)⟩]
    concatenates_S256x128_S256x128_S256x256_d1

/-- A chunk of the activations, its row pairs put back in order. -/
def lhs (x : Vec F S64x2x256 .bf16) : FVec F S128x256 .bf16 :=
  interleaveRows S128x256 (shapeCast S64x256 (rowsOfParity 0 S64x1x256 x bitcasts_S64x2x256_w16_S64x1x256_w32) shapeCasts_S64x1x256_S64x256)
    (shapeCast S64x256 (rowsOfParity 1 S64x1x256 x bitcasts_S64x2x256_w16_S64x1x256_w32) shapeCasts_S64x1x256_S64x256)
    bitcasts_S128x256_w16_S64x256_w32

/-- What the first grid point stores for a chunk of the activations: the chunk times the 0/1 matrix, as row pairs. -/
def stored (x : Vec F S128x256 .bf16) : Vec F S64x2x256 .bf16 := k0_pay3 x

/-- The accumulator after the first n chunks. -/
def accs (a : Fin 32 → Fin 4 → Fin 2 → Vec F S1x128 .f32) (w : Fin 32 → Fin 4 → Fin 2 → Vec F S32x128 .i8)
    (x : Fin 32 → Vec F S64x2x256 .bf16) : (n : ℕ) → n ≤ 32 → FVec F S128x256 .f32
  | 0, _ => k0_pay56
  | n + 1, h => addf (accs a w x n (Nat.le_of_succ_le h))
      (matmul dot_S128x256_S256x256_S128x256_1_0_0_1_n_n none (lhs (x ⟨n, h⟩)) (tile (a ⟨n, h⟩) (w ⟨n, h⟩)) (constant S128x256 .f32 0x00000000#32))

/-! ## The rectangles of the loads -/

/-- Row k of the scales, half s of the columns, lies in the scales. -/
theorem inbA (k : Fin 128) (s : Fin 2) : ∀ d, (![k.val, 128 * s.val] : Fin 2 → ℕ) d + S1x128.size d ≤ S128x256.size d := by
  intro d; have hk := k.isLt; have hs := s.isLt
  match d with
  | 0 => show k.val + 1 ≤ 128; omega
  | 1 => show 128 * s.val + 128 ≤ 256; omega

/-- Block k of the packed rows, half s of the columns, lies in the packed weights. -/
theorem inbW (k : Fin 128) (s : Fin 2) : ∀ d, (![32 * k.val, 128 * s.val] : Fin 2 → ℕ) d + S32x128.size d ≤ S4096x256.size d := by
  intro d; have hk := k.isLt; have hs := s.isLt
  match d with
  | 0 => show 32 * k.val + 32 ≤ 4096; omega
  | 1 => show 128 * s.val + 128 ≤ 256; omega

/-- Chunk n of the stored activations lies in them. -/
theorem inbX (n : Fin 32) : ∀ d, (![0, 0, 256 * n.val] : Fin 3 → ℕ) d + S64x2x256.size d ≤ S64x2x8192.size d := by
  intro d; have hn := n.isLt
  match d with
  | 0 => show 0 + 64 ≤ 64; omega
  | 1 => show 0 + 2 ≤ 2; omega
  | 2 => show 256 * n.val + 256 ≤ 8192; omega

/-- Chunk n of the activations lies in them. -/
theorem inbX0 (n : Fin 32) : ∀ d, (![0, 256 * n.val] : Fin 2 → ℕ) d + S128x256.size d ≤ S128x8192.size d := by
  intro d; have hn := n.isLt
  match d with
  | 0 => show 0 + 128 ≤ 128; omega
  | 1 => show 256 * n.val + 256 ≤ 8192; omega

/-- The load of row k of the scales, half s of the columns. -/
def rectA (k : Fin 128) (s : Fin 2) : Rect S128x256 := Rect.unit ![k.val, 128 * s.val] S1x128.size (inbA k s)

/-- The load of block k of the packed rows, half s of the columns. -/
def rectW (k : Fin 128) (s : Fin 2) : Rect S4096x256 := Rect.unit ![32 * k.val, 128 * s.val] S32x128.size (inbW k s)

/-- The rectangle of chunk n of the stored activations. -/
def rectX (n : Fin 32) : Rect S64x2x8192 := Rect.unit ![0, 0, 256 * n.val] S64x2x256.size (inbX n)

/-- The rectangle of chunk n of the activations. -/
def rectX0 (n : Fin 32) : Rect S128x8192 := Rect.unit ![0, 256 * n.val] S128x256.size (inbX0 n)

/-- The first grid point's stores of the activations' first n chunks, the last one first. -/
def storedPieces (x : Fin 32 → Vec F S128x256 .bf16) : (n : ℕ) → n ≤ 32 → List (View.Piece (Elt F) S64x2x8192 .bf16)
  | 0, _ => []
  | n + 1, h => ⟨rectX ⟨n, h⟩, stored (x ⟨n, h⟩)⟩ :: storedPieces x n (Nat.le_of_succ_le h)

/-- Block b of chunk n, among the 128 blocks. -/
def blk (n : Fin 32) (b : Fin 4) : Fin 128 := ⟨4 * n.val + b.val, by have := n.isLt; have := b.isLt; omega⟩

end Cert.KernelIdeal.Nf4

end
-- ==== Proof.Spec.lean ====
/-
  The mathematics both programs compute: the sixteen NF4 values, the nibble of a packed byte that holds a weight, the
  scale of a weight, and the sum over the 8192 inputs.
-/
module

public import Idealize.ShloMosaic.Lib.Pointwise

@[expose] public section

noncomputable section

namespace Cert.Nf4

open Idealize.ShloMosaic

/-- The sixteen NF4 values, as binary32 words. -/
def word : Fin 16 → BitVec 32 :=
  ![0xBF800000#32, 0xBF3239B1#32, 0xBF066B30#32, 0xBECA32A0#32, 0xBE91A24D#32, 0xBE3D353F#32, 0xBDBA7871#32, 0x00000000#32,
    0x3DA2FAFF#32, 0x3E24CAE3#32, 0x3E7C04DD#32, 0x3EAD033A#32, 0x3EE1A4B8#32, 0x3F1007AB#32, 0x3F3913B3#32, 0x3F800000#32]

/-- NF4 value number n. -/
def value {F : FTy → Type} [FloatOps F] (n : Fin 16) : F .f32 := Scalar.ofBits .f32 (word n)

/-- The nibble of a packed byte that holds weight row k: the low one when k is even, the high one when it is odd. -/
def nibble (w : BitVec 8) (k : ℕ) : Fin 16 := ⟨w.toNat / 16 ^ (k % 2) % 16, Nat.mod_lt _ (by decide)⟩

/-- The scale of weight block b in column l: its code times the scale of its group of 256 columns, plus the offset. -/
def scaleAt (codes : (⟨2, ![128, 22528]⟩ : Shape).Idx → BitVec 8) (sc : (⟨2, ![128, 88]⟩ : Shape).Idx → EReal) (off : EReal)
    (b : Fin 128) (l : Fin 22528) : EReal :=
  (FloatOps.sitofp (F := Ideal) .f32 (codes (ix2 b l)) : EReal) * sc (ix2 b ⟨l.val / 256, by have := l.isLt; omega⟩) + off

/-- Weight row k of column l. -/
def weight (w : (⟨2, ![4096, 22528]⟩ : Shape).Idx → BitVec 8) (codes : (⟨2, ![128, 22528]⟩ : Shape).Idx → BitVec 8)
    (sc : (⟨2, ![128, 88]⟩ : Shape).Idx → EReal) (off : EReal) (k : Fin 8192) (l : Fin 22528) : EReal :=
  (value (F := Ideal) (nibble (w (ix2 ⟨k.val / 2, by have := k.isLt; omega⟩ l)) k.val) : EReal) *
    scaleAt codes sc off ⟨k.val / 64, by have := k.isLt; omega⟩ l

/-- The result at row r and column l: the sum over the inputs of activation times weight. -/
def linear (x : (⟨3, ![128, 1, 8192]⟩ : Shape).Idx → EReal) (w : (⟨2, ![4096, 22528]⟩ : Shape).Idx → BitVec 8)
    (codes : (⟨2, ![128, 22528]⟩ : Shape).Idx → BitVec 8) (sc : (⟨2, ![128, 88]⟩ : Shape).Idx → EReal) (off : EReal) :
    (⟨2, ![128, 22528]⟩ : Shape).Idx → EReal := fun i =>
  ∑ k : Fin 8192, x (ix3 (i 0) 0 k) * weight w codes sc off k (i 1)

end Cert.Nf4

end
-- ==== Proof.Bytes.lean ====
/-
  The packed bytes of a block, as the kernel takes them apart: four bytes to a word, the word's 16-bit halves, and the
  low byte of a half. The four gathers of a block read the sixteen-row table at the nibbles of those bytes.
-/
module

public import proofs.«01_k».proof.Proof.Tile
public import proofs.«01_k».proof.Proof.Spec
public import Idealize.ShloMosaic.Lib.BitcastFour

@[expose] public section

noncomputable section

namespace Cert.KernelIdeal.Nf4

open Idealize.ShloMosaic Idealize.ShloMosaic.TcCoe Cert.KernelIdeal.Gen Cert.Nf4

variable {F : FTy → Type} [FloatOps F]

/-- Row r of the column is NF4 value number r. -/
theorem column_apply (r : Fin 16) (l : Fin 128) : column (F := F) (ix2 r l) = value r := by
  unfold column k0_pay55 k0_pay53 k0_pay54 k0_pay51 k0_pay52
  pointwise
  fin_cases r <;> rfl

/-- The gather reads the table's row given by the low four bits. -/
theorem lowAt_apply (tb : FVec F S16x128 .bf16) (h : IVec S16x128 32) (r : Fin 16) (l : Fin 128) :
    lowAt tb h (ix2 r l) = tb (ix2 ⟨(h (ix2 r l)).toNat % 16, Nat.mod_lt _ (by decide)⟩ l) := by
  unfold lowAt
  pointwise
  congr 2
  apply Fin.ext
  show (h (ix2 r l) &&& 15#32).toNat % 16 = (h (ix2 r l)).toNat % 16
  rw [BitVec.toNat_and, show (15#32 : BitVec 32).toNat = 2 ^ 4 - 1 from rfl, Nat.and_two_pow_sub_one_eq_mod]
  omega

/-- The gather of the next four bits reads the table's row given by them. -/
theorem highAt_apply (tb : FVec F S16x128 .bf16) (h : IVec S16x128 32) (r : Fin 16) (l : Fin 128) :
    highAt tb h (ix2 r l) = tb (ix2 ⟨(h (ix2 r l)).toNat / 16 % 16, Nat.mod_lt _ (by decide)⟩ l) := by
  unfold highAt
  rw [lowAt_apply]
  congr 2
  apply Fin.ext
  show (IntOp.shrui .vector (h (ix2 r l)) 4#32).toNat % 16 = (h (ix2 r l)).toNat / 16 % 16
  rw [show IntOp.shrui .vector (h (ix2 r l)) 4#32 = h (ix2 r l) >>> 4 from rfl, BitVec.toNat_ushiftRight, Nat.shiftRight_eq_div_pow]

/-- Bit q of a word is bit q % 8 of the byte q / 8. -/
theorem words_getLsbD (w : Vec F S32x128 .i8) (a : Fin 8) (l : Fin 128) (q : ℕ) (hq : q < 32) (p : Fin 32)
    (hp : p.val = 4 * a.val + q / 8) : (words (F := F) w (ix2 a l)).getLsbD q = BitVec.getLsbD (w (ix2 p l)) (q % 8) :=
  bitcast_8_32_getLsbD_ix2 w _ a l q hq p hp

/-- A 16-bit half of a word, widened, has the half's bits. -/
theorem halves_getLsbD (x : IVec S8x128 32) (m : Fin 16) (l : Fin 128) (q : ℕ) (hq : q < 16) (a : Fin 8) (ha : a.val = m.val / 2) :
    (halves x (ix2 m l)).getLsbD q = (x (ix2 a l)).getLsbD (16 * (m.val % 2) + q) := by
  unfold halves
  pointwise
  rw [bitcast_32_16, BitVec.getLsbD_signExtend]
  have hr : S16x128.row (ix2 m l) = m.val := rfl
  have hi : (bitcasts_S8x128_w32_S16x128_w16.srcIdx (ix2 m l) (S16x128.row (ix2 m l) / 2) (by
      intro a ha
      have := bitcasts_S8x128_w32_S16x128_w16.pos_lt (ix2 m l) 0 (by decide) a ha; omega)) = ix2 a l := by
    funext c
    match c with
    | ⟨0, _⟩ => exact Fin.ext ((bitcasts_S8x128_w32_S16x128_w16.srcIdx_row _ _ _ ⟨0, Nat.zero_lt_two⟩ rfl).trans ha.symm)
    | ⟨1, _⟩ => exact Fin.ext (bitcasts_S8x128_w32_S16x128_w16.srcIdx_other _ _ _ ⟨1, Nat.one_lt_two⟩ (by show ¬ 1 + 2 = 2; omega))
  rw [hi, hr]
  simp [hq, show q < 32 by omega]

/-- Two words with the same low eight bits: the byte's value is the word's modulo 256. -/
theorem mod_256 (h : BitVec 32) (b : BitVec 8) (e : ∀ q, q < 8 → h.getLsbD q = b.getLsbD q) : h.toNat % 256 = b.toNat := by
  have : h.setWidth 8 = b := by
    apply BitVec.eq_of_getLsbD_eq
    intro q hq
    rw [BitVec.getLsbD_setWidth, e q hq]
    simp [hq]
  rw [← this, BitVec.toNat_setWidth]

/-- The low byte of half m of the words is packed byte 2 m. -/
theorem half0_mod (w : Vec F S32x128 .i8) (m : Fin 16) (l : Fin 128) (p : Fin 32) (hp : p.val = 2 * m.val) :
    (half0 (F := F) w (ix2 m l)).toNat % 256 = BitVec.toNat (w (ix2 p l)) := by
  have hm := m.isLt
  refine mod_256 _ _ fun q hq => ?_
  unfold half0
  rw [halves_getLsbD _ m l q (by omega) ⟨m.val / 2, by omega⟩ rfl, words_getLsbD w _ l _ (by omega) p (by
    show p.val = 4 * (m.val / 2) + (16 * (m.val % 2) + q) / 8; omega)]
  congr 1; omega

/-- The low byte of half m of the shifted words is packed byte 2 m + 1. -/
theorem half1_mod (w : Vec F S32x128 .i8) (m : Fin 16) (l : Fin 128) (p : Fin 32) (hp : p.val = 2 * m.val + 1) :
    (half1 (F := F) w (ix2 m l)).toNat % 256 = BitVec.toNat (w (ix2 p l)) := by
  have hm := m.isLt
  refine mod_256 _ _ fun q hq => ?_
  unfold half1
  rw [halves_getLsbD _ m l q (by omega) ⟨m.val / 2, by omega⟩ rfl]
  show (words (F := F) w (ix2 (⟨m.val / 2, _⟩ : Fin 8) l) >>> 8).getLsbD (16 * (m.val % 2) + q) = _
  rw [BitVec.getLsbD_ushiftRight, words_getLsbD w _ l _ (by omega) p (by
    show p.val = 4 * (m.val / 2) + (8 + (16 * (m.val % 2) + q)) / 8; omega)]
  congr 1; omega

/-- The table at value number n: the value times the scale, rounded. -/
theorem table_apply (a : Vec F S1x128 .f32) (n : Fin 16) (l : Fin 128) :
    table a (ix2 n l) = FloatOps.truncf .bf16 bitsLt_bf16_f32 (FloatOps.mulf (value n) (a (ix2 0 l) : F .f32)) := by
  unfold table
  pointwise [column_apply]

/-- Weight row 4 m + q of a block: the table at the nibble of packed byte 2 m + q / 2. -/
def weightRow (a : Vec F S1x128 .f32) (w : Vec F S32x128 .i8) (q : Fin 4) : FVec F S16x128 .bf16 := ![part0 a w, part1 a w, part2 a w, part3 a w] q

theorem weightRow_apply (a : Vec F S1x128 .f32) (w : Vec F S32x128 .i8) (q : Fin 4) (m : Fin 16) (l : Fin 128) (p : Fin 32)
    (hp : p.val = 2 * m.val + q.val / 2) :
    weightRow a w q (ix2 m l) = FloatOps.truncf .bf16 bitsLt_bf16_f32 (FloatOps.mulf (value (nibble (w (ix2 p l)) q.val)) (a (ix2 0 l) : F .f32)) := by
  match q, hp with
  | 0, hp =>
    show lowAt (table a) (half0 (F := F) w) (ix2 m l) = _
    rw [lowAt_apply, table_apply]
    congr 3
    apply Fin.ext
    have := half0_mod w m l p (by simpa using hp)
    show _ % 16 = BitVec.toNat (w (ix2 p l)) / 1 % 16
    omega
  | 1, hp =>
    show highAt (table a) (half0 (F := F) w) (ix2 m l) = _
    rw [highAt_apply, table_apply]
    congr 3
    apply Fin.ext
    have := half0_mod w m l p (by simpa using hp)
    show _ / 16 % 16 = BitVec.toNat (w (ix2 p l)) / 16 % 16
    omega
  | 2, hp =>
    show lowAt (table a) (half1 (F := F) w) (ix2 m l) = _
    rw [lowAt_apply, table_apply]
    congr 3
    apply Fin.ext
    have := half1_mod w m l p (by simpa using hp)
    show _ % 16 = BitVec.toNat (w (ix2 p l)) / 1 % 16
    omega
  | 3, hp =>
    show highAt (table a) (half1 (F := F) w) (ix2 m l) = _
    rw [highAt_apply, table_apply]
    congr 3
    apply Fin.ext
    have := half1_mod w m l p (by simpa using hp)
    show _ / 16 % 16 = BitVec.toNat (w (ix2 p l)) / 16 % 16
    omega

end Cert.KernelIdeal.Nf4

end
-- ==== Proof.Chunk.lean ====
/-
  The weight tile of a chunk at an index: row R of the tile is weight row 4 (R % 64) + R / 64 of the chunk.
-/
module

public import proofs.«01_k».proof.Proof.Bytes

@[expose] public section

noncomputable section

namespace Cert.KernelIdeal.Nf4

open Idealize.ShloMosaic Idealize.ShloMosaic.TcCoe Cert.KernelIdeal.Gen Cert.Nf4

variable {F : FTy → Type} [FloatOps F]

/-- The sixteen pieces of a column half, in order: part n / 4 of block n % 4. -/
theorem cols_apply (a : Fin 4 → Vec F S1x128 .f32) (w : Fin 4 → Vec F S32x128 .i8) (R : Fin 256) (l : Fin 128)
    (b q : Fin 4) (m : Fin 16) (hR : R.val = 64 * q.val + 16 * b.val + m.val) :
    cols a w (ix2 R l) = weightRow (a b) (w b) q (ix2 m l) := by
  have hb := b.isLt; have hq := q.isLt; have hm := m.isLt
  let f : Fin 16 → (S16x128.Idx → F .bf16) := fun n => weightRow (a ⟨n.val % 4, by omega⟩) (w ⟨n.val % 4, by omega⟩) ⟨n.val / 4, by have := n.isLt; omega⟩
  have key := concatenate_ofFn_apply (t := S256x128) (s₁ := S16x128) 0 f
    concatenates_S16x128_S16x128_S16x128_S16x128_S16x128_S16x128_S16x128_S16x128_S16x128_S16x128_S16x128_S16x128_S16x128_S16x128_S16x128_S16x128_S256x128_d0
    rfl 16 rfl (ix2 R l) ⟨4 * q.val + b.val, by omega⟩ (by show R.val / 16 = 4 * q.val + b.val; omega) (ix2 m l)
    (by show m.val = R.val % 16; omega)
    (by
      intro c hc
      match c, hc with
      | ⟨0, _⟩, hc => exact absurd rfl hc
      | ⟨1, _⟩, _ => rfl)
  refine key.trans ?_
  have h4 : (⟨(4 * q.val + b.val) % 4, by omega⟩ : Fin 4) = b := Fin.ext (by show (4 * q.val + b.val) % 4 = b.val; omega)
  have hd : (⟨(4 * q.val + b.val) / 4, by omega⟩ : Fin 4) = q := Fin.ext (by show (4 * q.val + b.val) / 4 = q.val; omega)
  show weightRow (a ⟨(4 * q.val + b.val) % 4, _⟩) (w ⟨(4 * q.val + b.val) % 4, _⟩) ⟨(4 * q.val + b.val) / 4, _⟩ (ix2 m l) = _
  rw [h4, hd]

/-- The two column halves of a tile side by side. -/
theorem tile_half (a : Fin 4 → Fin 2 → Vec F S1x128 .f32) (w : Fin 4 → Fin 2 → Vec F S32x128 .i8) (R L : Fin 256) (s : Fin 2)
    (l : Fin 128) (hL : L.val = 128 * s.val + l.val) : tile a w (ix2 R L) = cols (fun b => a b s) (fun b => w b s) (ix2 R l) := by
  have hs := s.isLt; have hl := l.isLt
  let f : Fin 2 → (S256x128.Idx → F .bf16) := fun s => cols (fun b => a b s) (fun b => w b s)
  exact concatenate_ofFn_apply (t := S256x256) (s₁ := S256x128) 1 f concatenates_S256x128_S256x128_S256x256_d1
    rfl 128 rfl (ix2 R L) s (by show L.val / 128 = s.val; omega) (ix2 R l) (by show l.val = L.val % 128; omega)
    (by
      intro c hc
      match c, hc with
      | ⟨0, _⟩, _ => rfl
      | ⟨1, _⟩, hc => exact absurd rfl hc)

/-- The weight row that tile row R of chunk n holds. -/
def rowOf (n : Fin 32) (R : Fin 256) : Fin 8192 := ⟨256 * n.val + 4 * (R.val % 64) + R.val / 64, by have := n.isLt; have := R.isLt; omega⟩

/-- The tile of a chunk n whose blocks are cut from the point's scales A and packed weights W: row R of the tile is weight
    row `rowOf n R`. -/
theorem tile_apply (A : Vec F S128x256 .f32) (W : Vec F S4096x256 .i8) (n : Fin 32) (a : Fin 4 → Fin 2 → Vec F S1x128 .f32)
    (w : Fin 4 → Fin 2 → Vec F S32x128 .i8)
    (ha : ∀ (b : Fin 4) (s : Fin 2) (l : Fin 128) (K : Fin 128) (L : Fin 256), K.val = 4 * n.val + b.val → L.val = 128 * s.val + l.val →
      a b s (ix2 0 l) = A (ix2 K L))
    (hw : ∀ (b : Fin 4) (s : Fin 2) (p : Fin 32) (l : Fin 128) (K : Fin 4096) (L : Fin 256),
      K.val = 32 * (4 * n.val + b.val) + p.val → L.val = 128 * s.val + l.val → w b s (ix2 p l) = W (ix2 K L)) (R L : Fin 256) :
    tile a w (ix2 R L) =
      FloatOps.truncf .bf16 bitsLt_bf16_f32 (FloatOps.mulf
        (value (nibble (W (ix2 ⟨(rowOf n R).val / 2, by have := (rowOf n R).isLt; omega⟩ L)) (rowOf n R).val))
        (A (ix2 ⟨(rowOf n R).val / 64, by have := (rowOf n R).isLt; omega⟩ L) : F .f32)) := by
  have hn := n.isLt; have hR := R.isLt; have hL := L.isLt
  have hk : (rowOf n R).val = 256 * n.val + 4 * (R.val % 64) + R.val / 64 := rfl
  have h16 : R.val % 16 = R.val % 64 % 16 := (Nat.mod_mod_of_dvd _ (by decide)).symm
  have eL : L.val = 128 * (L.val / 128) + L.val % 128 := by omega
  rw [tile_half _ _ R L ⟨L.val / 128, by omega⟩ ⟨L.val % 128, by omega⟩ eL,
    cols_apply _ _ R _ ⟨R.val % 64 / 16, by omega⟩ ⟨R.val / 64, by omega⟩ ⟨R.val % 16, by omega⟩
      (by show R.val = 64 * (R.val / 64) + 16 * (R.val % 64 / 16) + R.val % 16; omega),
    weightRow_apply _ _ _ _ _ ⟨2 * (R.val % 16) + R.val / 64 / 2, by omega⟩ rfl,
    ha _ _ _ ⟨(rowOf n R).val / 64, by omega⟩ L (by show (rowOf n R).val / 64 = 4 * n.val + R.val % 64 / 16; omega) eL,
    hw _ _ _ _ ⟨(rowOf n R).val / 2, by omega⟩ L
      (by show (rowOf n R).val / 2 = 32 * (4 * n.val + R.val % 64 / 16) + (2 * (R.val % 16) + R.val / 64 / 2); omega) eL]
  congr 3
  unfold nibble
  congr 3
  have : R.val / 64 % 2 = (rowOf n R).val % 2 := by omega
  rw [this]

end Cert.KernelIdeal.Nf4

end
-- ==== Proof.Pieces.lean ====
/-
  What one grid point stores, as the accumulation of Tile.lean over the loads of that point: the run's own terms, chunk by
  chunk, are these by evaluation.
-/
module

public import proofs.«01_k».proof.Proof.Tile

@[expose] public section

noncomputable section

namespace Cert.KernelIdeal.Nf4

open Idealize.ShloMosaic Idealize.ShloMosaic.TcCoe Idealize.ShloMosaic.Tactic Cert.KernelIdeal.Gen

variable {F : FTy → Type} [FloatOps F]
variable (c : Dev nD) (i : grid0.Coords)
  (arg1 : Memref sig .tc .smem S1 .f32) (harg1 : arg1.IsWhole)
  (arg2 : Memref sig .tc .vmem S128x8192 .bf16) (harg2 : arg2.IsWhole)
  (arg3 : Memref sig .tc .vmem S4096x256 .i8) (harg3 : arg3.IsWhole)
  (arg4 : Memref sig .tc .vmem S128x256 .i8) (harg4 : arg4.IsWhole)
  (arg5 : Memref sig .tc .vmem S128x88 .f32) (harg5 : arg5.IsWhole)
  (arg6 : Memref sig .tc .vmem S128x256 .bf16) (harg6 : arg6.IsWhole)
  (arg7 : Memref sig .tc .vmem S64x2x8192 .bf16) (harg7 : arg7.IsWhole)
  (arg8 : Memref sig .tc .vmem S128x256 .f32) (harg8 : arg8.IsWhole)
  (x0 : Vec F S1 .f32) (x1 : Vec F S128x8192 .bf16) (x2 : Vec F S4096x256 .i8) (x3 : Vec F S128x256 .i8)
  (x4 : Vec F S128x88 .f32) (xs0 : Vec F S64x2x8192 .bf16)

/-- The scales of one grid point, all 128 blocks. -/
def scales : FVec F S128x256 .f32 :=
  k0_pay50 i
    (View.readAt (Elt F) arg5.view (Rect.unit ![0, 0] S128x88.size inb_S128x88_S128x88_0_0).toLoadRect (harg5.unread x4))
    (View.readAt (Elt F) arg4.view (Rect.unit ![0, 0] S128x256.size inb_S128x256_S128x256_0_0).toLoadRect (harg4.unread x3))
    (View.readAt (Elt F) arg1.view (Rect.unit ![0] S1.size inb_S1_S1_0).toLoadRect (harg1.unread x0) (Shape.Idx.first (s := S1) (by decide)))

/-- A load of one row and half of the scales, read back from their one store. -/
def loadA (k : Fin 128) (s : Fin 2) : Vec F S1x128 .f32 :=
  arg8.view.readCov [⟨Rect.unit ![0, 0] S128x256.size inb_S128x256_S128x256_0_0, scales i arg1 harg1 arg4 harg4 arg5 harg5 x0 x3 x4⟩]
    (rectA k s).toLoadRect

/-- A load of one block and half of the packed weights. -/
def loadW (k : Fin 128) (s : Fin 2) : Vec F S32x128 .i8 := View.readAt (Elt F) arg3.view (rectW k s).toLoadRect (harg3.unread x2)

/-- A load of a chunk of the activations. -/
def loadX0 (n : Fin 32) : Vec F S128x256 .bf16 := View.readAt (Elt F) arg2.view (rectX0 n).toLoadRect (harg2.unread x1)

/-- A point after the first: the accumulation over the activations held in the scratch. -/
theorem piecesB (hc0 : ¬cond0_0 i) :
    (kernelRun0_B c i arg1 harg1 arg2 harg2 arg3 harg3 arg4 harg4 arg5 harg5 arg6 harg6 arg7 harg7 arg8 harg8 hc0 x0 x1 x2 x3 x4 xs0).1 =
      [⟨Rect.unit ![0, 0] S128x256.size inb_S128x256_S128x256_0_0,
        truncf .bf16 (accs (fun n b s => loadA i arg1 harg1 arg4 harg4 arg5 harg5 arg8 x0 x3 x4 (blk n b) s)
          (fun n b s => loadW arg3 harg3 x2 (blk n b) s)
          (fun n => View.readAt (Elt F) arg7.view (rectX n).toLoadRect (harg7.unread xs0)) 32 le_rfl) bitsLt_bf16_f32⟩] := by
  sl_kernel_rfl

/-- The first point: the accumulation over the activations that it has stored. -/
theorem piecesA (hc0 : cond0_0 i) :
    (kernelRun0_A c i arg1 harg1 arg2 harg2 arg3 harg3 arg4 harg4 arg5 harg5 arg6 harg6 arg7 harg7 arg8 harg8 hc0 x0 x1 x2 x3 x4).1 =
      [⟨Rect.unit ![0, 0] S128x256.size inb_S128x256_S128x256_0_0,
        truncf .bf16 (accs (fun n b s => loadA i arg1 harg1 arg4 harg4 arg5 harg5 arg8 x0 x3 x4 (blk n b) s)
          (fun n b s => loadW arg3 harg3 x2 (blk n b) s)
          (fun n => arg7.view.readCov (storedPieces (loadX0 arg2 harg2 x1) 32 le_rfl) (rectX n).toLoadRect) 32 le_rfl) bitsLt_bf16_f32⟩] := by
  sl_kernel_rfl

/-- The first point's stores of the activations. -/
theorem storedA (hc0 : cond0_0 i) :
    (kernelRun0_A c i arg1 harg1 arg2 harg2 arg3 harg3 arg4 harg4 arg5 harg5 arg6 harg6 arg7 harg7 arg8 harg8 hc0 x0 x1 x2 x3 x4).2.1 =
      storedPieces (loadX0 arg2 harg2 x1) 32 le_rfl := by
  sl_kernel_rfl

end Cert.KernelIdeal.Nf4

end
-- ==== Proof.Point.lean ====
/-
  What each grid point leaves: the stored activations, the same at every point, and the output block as a closed term
  over the point's input blocks. No memory view is left after this module.
-/
module

public import proofs.«01_k».proof.Proof.Pieces
public import Idealize.ShloMosaic.Lib.Pipeline.ValueKit

@[expose] public section

noncomputable section

namespace Cert.KernelIdeal.Nf4

open Idealize.ShloMosaic Idealize.ShloMosaic.TcCoe Idealize.ShloMosaic.Tactic Cert.KernelIdeal.Gen

variable {F : FTy → Type} [FloatOps F]

/-- The stored activations at an index: the chunk of the lane, at the lane's place in it. -/
def xAll (x1 : Vec F S128x8192 .bf16) : Vec F S64x2x8192 .bf16 := fun y =>
  stored (View.ld x1 (rectX0 ⟨(y 2).val / 256, by have h : (y 2).val < 8192 := (y 2).isLt; omega⟩))
    (ix3 (y 0) (y 1) ⟨(y 2).val % 256, Nat.mod_lt _ (by decide)⟩)

/-- The chunk n of the stored activations, as loaded, is what was stored for chunk n. -/
theorem xAll_rectX (x1 : Vec F S128x8192 .bf16) (n : Fin 32) (j : (rectX n).shape.Idx) :
    xAll x1 ((rectX n).emb j) = stored (View.ld x1 (rectX0 n)) j := by
  have h2 : (((rectX n).emb j) 2).val = 256 * n.val + 1 * (j 2).val := rfl
  have hj : (j 2).val < 256 := (j 2).isLt
  have hq : (((rectX n).emb j) 2).val / 256 = n.val := by omega
  have hn : (⟨(((rectX n).emb j) 2).val / 256, by rw [hq]; exact n.isLt⟩ : Fin 32) = n := Fin.ext hq
  show stored (View.ld x1 (rectX0 ⟨(((rectX n).emb j) 2).val / 256, _⟩)) _ = _
  rw [hn]
  congr 1
  funext a
  apply Fin.ext
  match a with
  | ⟨0, _⟩ => show 0 + 1 * (j 0).val = (j 0).val; omega
  | ⟨1, _⟩ => show 0 + 1 * (j 1).val = (j 1).val; omega
  | ⟨2, _⟩ => show (((rectX n).emb j) 2).val % 256 = (j 2).val; omega

/-- Every store of a list of stores is a block of the stored activations. -/
theorem storedPieces_block (x1 : Vec F S128x8192 .bf16) : ∀ (n : ℕ) (h : n ≤ 32),
    ∀ p ∈ storedPieces (fun k => View.ld x1 (rectX0 k)) n h, ∀ x : p.1.shape.Idx, p.2 x = xAll x1 (p.1.emb x)
  | 0, _, p, hp, _ => absurd hp List.not_mem_nil
  | n + 1, h, p, hp, x => by
    rcases List.mem_cons.mp hp with rfl | hp
    · exact (xAll_rectX x1 ⟨n, h⟩ x).symm
    · exact storedPieces_block x1 n _ p hp x

/-- The store of chunk k is among the first n, for k below n. -/
theorem storedPieces_mem (x : Fin 32 → Vec F S128x256 .bf16) : ∀ (n : ℕ) (h : n ≤ 32) (k : Fin 32), k.val < n →
    (⟨rectX k, stored (x k)⟩ : View.Piece (Elt F) S64x2x8192 .bf16) ∈ storedPieces x n h
  | 0, _, k, hk => absurd hk (Nat.not_lt_zero _)
  | n + 1, h, k, hk => by
    by_cases e : k.val = n
    · obtain rfl : k = ⟨n, h⟩ := Fin.ext e
      exact List.mem_cons_self
    · exact List.mem_cons_of_mem _ (storedPieces_mem x n _ k (by omega))

/-- All the stores together leave the stored activations. -/
theorem canon_stored (x1 : Vec F S128x8192 .bf16) :
    View.canon (storedPieces (fun k => View.ld x1 (rectX0 k)) 32 le_rfl) = xAll x1 := by
  funext y
  have h2 : (y 2).val < 8192 := (y 2).isLt
  have h0 : (y 0).val < 64 := (y 0).isLt
  have h1 : (y 1).val < 2 := (y 1).isLt
  refine View.canon_apply_of_pieces (xAll x1) _ (storedPieces_block x1 32 le_rfl) y
    ⟨_, storedPieces_mem _ 32 le_rfl ⟨(y 2).val / 256, by omega⟩ (by show (y 2).val / 256 < 32; omega), ?_⟩
  show y ∈ (rectX ⟨(y 2).val / 256, _⟩).set
  unfold rectX
  rw [Rect.mem_set_unit]
  intro a
  match a with
  | ⟨0, _⟩ => show 0 ≤ (y 0).val ∧ (y 0).val < 0 + 64; omega
  | ⟨1, _⟩ => show 0 ≤ (y 1).val ∧ (y 1).val < 0 + 2; omega
  | ⟨2, _⟩ => show 256 * ((y 2).val / 256) ≤ (y 2).val ∧ (y 2).val < 256 * ((y 2).val / 256) + 256; omega

/-- The scales of a grid point, from its blocks. -/
def scalesOf (i : grid0.Coords) (x0 : Vec F S1 .f32) (x3 : Vec F S128x256 .i8) (x4 : Vec F S128x88 .f32) : FVec F S128x256 .f32 :=
  k0_pay50 i x4 x3 (x0 (Shape.Idx.first (s := S1) (by decide)))

/-- The output block of a grid point, from its blocks. -/
def pointOut (i : grid0.Coords) (x0 : Vec F S1 .f32) (x1 : Vec F S128x8192 .bf16) (x2 : Vec F S4096x256 .i8)
    (x3 : Vec F S128x256 .i8) (x4 : Vec F S128x88 .f32) : FVec F S128x256 .bf16 :=
  truncf .bf16 (accs (fun n b s => View.ld (scalesOf i x0 x3 x4) (rectA (blk n b) s)) (fun n b s => View.ld x2 (rectW (blk n b) s))
    (fun n => stored (View.ld x1 (rectX0 n))) 32 le_rfl) bitsLt_bf16_f32

variable (c : Dev nD) (i : grid0.Coords)
  (arg1 : Memref sig .tc .smem S1 .f32) (harg1 : arg1.IsWhole)
  (arg2 : Memref sig .tc .vmem S128x8192 .bf16) (harg2 : arg2.IsWhole)
  (arg3 : Memref sig .tc .vmem S4096x256 .i8) (harg3 : arg3.IsWhole)
  (arg4 : Memref sig .tc .vmem S128x256 .i8) (harg4 : arg4.IsWhole)
  (arg5 : Memref sig .tc .vmem S128x88 .f32) (harg5 : arg5.IsWhole)
  (arg6 : Memref sig .tc .vmem S128x256 .bf16) (harg6 : arg6.IsWhole)
  (arg7 : Memref sig .tc .vmem S64x2x8192 .bf16) (harg7 : arg7.IsWhole)
  (arg8 : Memref sig .tc .vmem S128x256 .f32) (harg8 : arg8.IsWhole)
  (x0 : Vec F S1 .f32) (x1 : Vec F S128x8192 .bf16) (x2 : Vec F S4096x256 .i8) (x3 : Vec F S128x256 .i8)
  (x4 : Vec F S128x88 .f32) (xs0 : Vec F S64x2x8192 .bf16)

theorem scales_eq : scales i arg1 harg1 arg4 harg4 arg5 harg5 x0 x3 x4 = scalesOf i x0 x3 x4 := by
  unfold scales scalesOf
  rw [View.readAt_eq_ld, View.readAt_eq_ld, View.readAt_eq_ld, harg1.read_unread, harg4.read_unread, harg5.read_unread,
    View.ld_unit_lit _ x4 (by decide), View.ld_unit_lit _ x3 (by decide), View.ld_unit_lit _ x0 (by decide)]

theorem loadA_eq (k : Fin 128) (s : Fin 2) :
    loadA i arg1 harg1 arg4 harg4 arg5 harg5 arg8 x0 x3 x4 k s = View.ld (scalesOf i x0 x3 x4) (rectA k s) := by
  unfold loadA
  rw [scales_eq, View.readCov_eq_canon', View.canon_cons_unit_lit _ _ _ (by decide)]

theorem loadW_eq (k : Fin 128) (s : Fin 2) : loadW arg3 harg3 x2 k s = View.ld x2 (rectW k s) := by
  unfold loadW
  rw [View.readAt_eq_ld, harg3.read_unread]

theorem loadX0_eq (n : Fin 32) : loadX0 arg2 harg2 x1 n = View.ld x1 (rectX0 n) := by
  unfold loadX0
  rw [View.readAt_eq_ld, harg2.read_unread]

/-- The first point's output block. -/
theorem outA (hc0 : cond0_0 i) :
    out0_A_5 c i arg1 harg1 arg2 harg2 arg3 harg3 arg4 harg4 arg5 harg5 arg6 harg6 arg7 harg7 arg8 harg8 hc0 x0 x1 x2 x3 x4 =
      pointOut i x0 x1 x2 x3 x4 := by
  unfold out0_A_5 pointOut
  rw [View.read_writes_junk_eq_canon, piecesA, View.canon_cons_unit_lit _ _ _ (by decide)]
  simp only [loadA_eq, loadW_eq]
  rw [show loadX0 arg2 harg2 x1 = fun n => View.ld x1 (rectX0 n) from funext (loadX0_eq arg2 harg2 x1)]
  congr 2
  funext n
  rw [View.readCov_eq_canon', canon_stored]
  funext j
  exact xAll_rectX x1 n j

/-- The first point leaves the stored activations. -/
theorem soutA (hc0 : cond0_0 i) :
    sout0_A_0 c i arg1 harg1 arg2 harg2 arg3 harg3 arg4 harg4 arg5 harg5 arg6 harg6 arg7 harg7 arg8 harg8 hc0 x0 x1 x2 x3 x4 =
      xAll x1 := by
  unfold sout0_A_0
  rw [View.read_writes_junk_eq_canon, storedA,
    show loadX0 arg2 harg2 x1 = fun n => View.ld x1 (rectX0 n) from funext (loadX0_eq arg2 harg2 x1), canon_stored]

/-- A later point's output block, over the stored activations. -/
theorem outB (hc0 : ¬cond0_0 i) :
    out0_B_5 c i arg1 harg1 arg2 harg2 arg3 harg3 arg4 harg4 arg5 harg5 arg6 harg6 arg7 harg7 arg8 harg8 hc0 x0 x1 x2 x3 x4 (xAll x1) =
      pointOut i x0 x1 x2 x3 x4 := by
  unfold out0_B_5 pointOut
  rw [View.read_writes_junk_eq_canon, piecesB, View.canon_cons_unit_lit _ _ _ (by decide)]
  simp only [loadA_eq, loadW_eq]
  congr 2
  funext n
  rw [View.readAt_eq_ld, harg7.read_unread]
  funext j
  exact xAll_rectX x1 n j

end Cert.KernelIdeal.Nf4

end
-- ==== Proof.Mix.lean ====
/-
  The activations and the scales of a grid point, over the extended reals: multiplying by the 0/1 matrix reorders the
  256 inputs of a chunk, and the masked sum over lanes picks one column of the scales.
-/
module

public import proofs.«01_k».proof.Proof.Chunk
public import proofs.«01_k».proof.Proof.Point

@[expose] public section

noncomputable section

namespace Cert.KernelIdeal.Nf4

open Idealize.ShloMosaic Idealize.ShloMosaic.TcCoe Cert.KernelIdeal.Gen Cert.Nf4

/-- A comparison of two small numbers as words. -/
theorem cmpi_ofNat (a b : ℕ) (ha : a < 2 ^ 32) (hb : b < 2 ^ 32) :
    IntOp.cmpi .eq (BitVec.ofNat 32 a) (BitVec.ofNat 32 b) = if a = b then 1#1 else 0#1 := by
  have h : (BitVec.ofNat 32 a = BitVec.ofNat 32 b) ↔ a = b := by
    constructor
    · intro e
      have := congrArg BitVec.toNat e
      rwa [BitVec.toNat_ofNat, BitVec.toNat_ofNat, Nat.mod_eq_of_lt ha, Nat.mod_eq_of_lt hb] at this
    · rintro rfl; rfl
  by_cases e : a = b
  · subst e; simp [IntOp.cmpi]
  · have : ¬ (BitVec.ofNat 32 a = BitVec.ofNat 32 b) := fun q => e (h.mp q)
    rw [if_neg e]
    show BitVec.ofBool (BitVec.ofNat 32 a == BitVec.ofNat 32 b) = 0#1
    rw [beq_eq_false_iff_ne.mpr this]; rfl

/-- The row of a chunk that the 0/1 matrix takes to place c. -/
def pre (c : Fin 256) : Fin 256 := ⟨4 * (c.val % 64) + c.val / 64, by have := c.isLt; omega⟩

/-- The place a row of a chunk is taken to, as the kernel computes it. -/
theorem place_word : ∀ k : Fin 256, IntOp.addi (IntOp.muli (IntOp.andi (BitVec.ofNat 32 k.val) 3#32) 64#32)
    (IntOp.shrsi ArithUnit.vector (BitVec.ofNat 32 k.val) 2#32) = BitVec.ofNat 32 (k.val % 4 * 64 + k.val / 4) := by
  decide +kernel

/-- The 0/1 matrix. -/
theorem perm_apply (k c : Fin 256) : (k0_pay2 (F := Ideal) (ix2 k c) : EReal) = if k = pre c then 1 else 0 := by
  have hk := k.isLt; have hc := c.isLt
  unfold k0_pay2
  pointwise
  rw [place_word, cmpi_ofNat _ _ (by omega) (by omega)]
  have h : k.val % 4 * 64 + k.val / 4 = c.val ↔ k = pre c := by
    rw [Fin.ext_iff]
    show _ ↔ k.val = 4 * (c.val % 64) + c.val / 64
    omega
  by_cases e : k = pre c
  · rw [if_pos (h.mpr e), if_pos e]
    show ((((1#1 : BitVec 1).setWidth 32).toInt : ℝ) : EReal) = 1
    norm_num
  · rw [if_neg (fun q => e (h.mp q)), if_neg e]
    show ((((0#1 : BitVec 1).setWidth 32).toInt : ℝ) : EReal) = 0
    norm_num

/-- The stored activations, read back: place c of a chunk holds input `pre c`. -/
theorem lhs_stored (x : Vec Ideal S128x256 .bf16) (r : Fin 128) (c : Fin 256) : lhs (stored x) (ix2 r c) = x (ix2 r (pre c)) := by
  unfold lhs stored k0_pay3
  pointwise [perm_apply]
  simp only [mul_ite, mul_one, mul_zero, Finset.sum_ite_eq', Finset.mem_univ, if_true]
  split
  · congr 2
    exact Fin.ext (by show 2 * (r.val / 2) = r.val; omega)
  · congr 2
    exact Fin.ext (by show 2 * (r.val / 2) + 1 = r.val; omega)

/-- The scales of a grid point: code times the scale of the point's column group, plus the offset. -/
theorem scalesOf_apply (i : grid0.Coords) (x0 : Vec Ideal S1 .f32) (x3 : Vec Ideal S128x256 .i8) (x4 : Vec Ideal S128x88 .f32)
    (b : Fin 128) (l : Fin 256) (g : Fin 88) (hg : g.val = (i 0).val) :
    (scalesOf i x0 x3 x4 (ix2 b l) : EReal) =
      (FloatOps.sitofp (F := Ideal) .f32 (x3 (ix2 b l)) : EReal) * (x4 (ix2 b g) : EReal) + (x0 (ix1 0) : EReal) := by
  have hi : Shape.Idx.first (s := S1) (by decide) = ix1 (0 : Fin 1) := by
    funext a
    match a with
    | ⟨0, _⟩ => rfl
  have hs (x : Fin 88) : Scalar.select (IntOp.cmpi CmpIPredicate.eq (BitVec.ofNat 32 x.val) (BitVec.ofNat 32 (i 0).val)) (x4 (ix2 b x) : EReal) 0 =
      if x = g then x4 (ix2 b x) else 0 := by
    have hx := x.isLt; have hg' := g.isLt
    rw [← hg, cmpi_ofNat _ _ (by omega) (by omega)]
    by_cases e : x = g
    · rw [if_pos e, if_pos (congrArg Fin.val e)]; rfl
    · rw [if_neg e, if_neg (fun q => e (Fin.ext q))]; rfl
  unfold scalesOf k0_pay50
  rw [hi]
  pointwise
  simp only [hs, Finset.sum_ite_eq', Finset.mem_univ, if_true]

end Cert.KernelIdeal.Nf4

end
-- ==== Proof.Sums.lean ====
/-
  The point's output at an index: the accumulation over chunks is the sum over the 8192 inputs, in another order.
-/
module

public import proofs.«01_k».proof.Proof.Mix

@[expose] public section

noncomputable section

namespace Cert.Nf4

/-- A sum over even and over odd numbers is a sum over all numbers. -/
theorem sum_even_odd (f : Fin 8192 → EReal) :
    ∑ p : Fin 4096, f ⟨2 * p.val, by have := p.isLt; omega⟩ + ∑ p : Fin 4096, f ⟨2 * p.val + 1, by have := p.isLt; omega⟩ = ∑ k, f k := by
  rw [← Finset.sum_add_distrib]
  let e : Fin 4096 × Fin 2 ≃ Fin 8192 :=
    { toFun := fun q => ⟨2 * q.1.val + q.2.val, by have := q.1.isLt; have := q.2.isLt; omega⟩
      invFun := fun k => (⟨k.val / 2, by have := k.isLt; omega⟩, ⟨k.val % 2, by omega⟩)
      left_inv := by
        intro q; have := q.2.isLt
        exact Prod.ext (Fin.ext (by show (2 * q.1.val + q.2.val) / 2 = q.1.val; omega)) (Fin.ext (by show (2 * q.1.val + q.2.val) % 2 = q.2.val; omega))
      right_inv := by intro k; exact Fin.ext (by show 2 * (k.val / 2) + k.val % 2 = k.val; omega) }
  rw [← Equiv.sum_comp e f, Fintype.sum_prod_type]
  refine Finset.sum_congr rfl fun p _ => ?_
  rw [Fin.sum_univ_two]
  rfl

end Cert.Nf4

namespace Cert.KernelIdeal.Nf4

open Idealize.ShloMosaic Idealize.ShloMosaic.TcCoe Cert.KernelIdeal.Gen Cert.Nf4

/-- A sum over chunks and tile rows is a sum over weight rows. -/
theorem sum_rowOf (f : Fin 8192 → EReal) : ∑ n : Fin 32, ∑ R : Fin 256, f (rowOf n R) = ∑ k, f k := by
  let e : Fin 32 × Fin 256 ≃ Fin 8192 :=
    { toFun := fun q => rowOf q.1 q.2
      invFun := fun k => (⟨k.val / 256, by have := k.isLt; omega⟩, ⟨64 * (k.val % 4) + k.val % 256 / 4, by omega⟩)
      left_inv := by
        intro q; have := q.1.isLt; have := q.2.isLt
        have hk : (rowOf q.1 q.2).val = 256 * q.1.val + 4 * (q.2.val % 64) + q.2.val / 64 := rfl
        have h256 : (rowOf q.1 q.2).val % 256 = 4 * (q.2.val % 64) + q.2.val / 64 := by omega
        have h4 : (rowOf q.1 q.2).val % 4 = q.2.val / 64 := by omega
        exact Prod.ext (Fin.ext (by show (rowOf q.1 q.2).val / 256 = q.1.val; omega))
          (Fin.ext (by show 64 * ((rowOf q.1 q.2).val % 4) + (rowOf q.1 q.2).val % 256 / 4 = q.2.val; omega))
      right_inv := by
        intro k; have := k.isLt
        have h4 : k.val % 4 = k.val % 256 % 4 := (Nat.mod_mod_of_dvd _ (by decide)).symm
        have hm : (64 * (k.val % 4) + k.val % 256 / 4) % 64 = k.val % 256 / 4 := by omega
        have hd : (64 * (k.val % 4) + k.val % 256 / 4) / 64 = k.val % 4 := by omega
        exact Fin.ext (by
          show 256 * (k.val / 256) + 4 * ((64 * (k.val % 4) + k.val % 256 / 4) % 64) + (64 * (k.val % 4) + k.val % 256 / 4) / 64 = k.val
          omega) }
  rw [← Equiv.sum_comp e f, Fintype.sum_prod_type]
  rfl

/-- The accumulator after n chunks, at an index. -/
theorem accs_apply (a : Fin 32 → Fin 4 → Fin 2 → Vec Ideal S1x128 .f32) (w : Fin 32 → Fin 4 → Fin 2 → Vec Ideal S32x128 .i8)
    (x : Fin 32 → Vec Ideal S64x2x256 .bf16) (r : Fin 128) (l : Fin 256) : ∀ (n : ℕ) (h : n ≤ 32),
    (accs a w x n h (ix2 r l) : EReal) = ∑ m : Fin n, ∑ R : Fin 256,
      (lhs (x ⟨m.val, by have := m.isLt; omega⟩) (ix2 r R) : EReal) *
        (tile (a ⟨m.val, by have := m.isLt; omega⟩) (w ⟨m.val, by have := m.isLt; omega⟩) (ix2 R l) : EReal)
  | 0, _ => by
    show (k0_pay56 (F := Ideal) (ix2 r l) : EReal) = _
    unfold k0_pay56
    pointwise
    simp
  | n + 1, h => by
    rw [Fin.sum_univ_castSucc]
    show (addf (accs a w x n _) _ (ix2 r l) : EReal) = _
    pointwise
    rw [accs_apply a w x r l n]
    rfl

/-- The output block of a grid point, at an index: activations times weights, summed over the inputs. -/
theorem pointOut_apply (i : grid0.Coords) (x0 : Vec Ideal S1 .f32) (x1 : Vec Ideal S128x8192 .bf16) (x2 : Vec Ideal S4096x256 .i8)
    (x3 : Vec Ideal S128x256 .i8) (x4 : Vec Ideal S128x88 .f32) (r : Fin 128) (l : Fin 256) (g : Fin 88) (hg : g.val = (i 0).val) :
    (pointOut i x0 x1 x2 x3 x4 (ix2 r l) : EReal) = ∑ k : Fin 8192, (x1 (ix2 r k) : EReal) *
      ((value (F := Ideal) (nibble (x2 (ix2 ⟨k.val / 2, by have := k.isLt; omega⟩ l)) k.val) : EReal) *
        ((FloatOps.sitofp (F := Ideal) .f32 (x3 (ix2 ⟨k.val / 64, by have := k.isLt; omega⟩ l)) : EReal) *
          (x4 (ix2 ⟨k.val / 64, by have := k.isLt; omega⟩ g) : EReal) + (x0 (ix1 0) : EReal))) := by
  rw [← sum_rowOf]
  refine (accs_apply _ _ _ r l 32 le_rfl).trans ?_
  refine Finset.sum_congr rfl fun n _ => Finset.sum_congr rfl fun R _ => ?_
  have hx : (lhs (stored (View.ld x1 (rectX0 n))) (ix2 r R) : EReal) = x1 (ix2 r (rowOf n R)) := by
    refine (lhs_stored _ r R).trans (View.ld_unit_apply_of x1 _ _ _ _ _ fun a => ?_)
    match a with
    | ⟨0, _⟩ => show r.val = 0 + r.val; omega
    | ⟨1, _⟩ => show 256 * n.val + 4 * (R.val % 64) + R.val / 64 = 256 * n.val + (4 * (R.val % 64) + R.val / 64); omega
  have ht := tile_apply (scalesOf i x0 x3 x4) x2 n (fun b s => View.ld (scalesOf i x0 x3 x4) (rectA (blk n b) s))
    (fun b s => View.ld x2 (rectW (blk n b) s))
    (fun b s l K L hK hL => View.ld_unit_apply_of _ _ _ _ _ _ fun a => by
      match a with
      | ⟨0, _⟩ => exact hK
      | ⟨1, _⟩ => exact hL)
    (fun b s p l K L hK hL => View.ld_unit_apply_of _ _ _ _ _ _ fun a => by
      match a with
      | ⟨0, _⟩ => exact hK
      | ⟨1, _⟩ => exact hL) R l
  refine congrArg₂ (fun u v : EReal => u * v) hx (ht.trans ?_)
  exact congrArg (fun v : EReal => (value (F := Ideal) _ : EReal) * v) (scalesOf_apply i x0 x3 x4 _ l g hg)

end Cert.KernelIdeal.Nf4

end
-- ==== Proof.Array.lean ====
/-
  From grid points to arrays: every point finds the activations stored as the first point left them, its blocks are
  columns 256 t to 256 t + 255 of the arrays, and the output array is the points' output blocks side by side.
-/
module

public import proofs.«01_k».proof.Proof.Sums

@[expose] public section

noncomputable section

namespace Cert.KernelIdeal.Nf4

open Cert.KernelIdeal Idealize.ShloMosaic Idealize.ShloMosaic.TcCoe Cert.KernelIdeal.Gen Cert.KernelIdeal.Value Idealize.SL.Sem

variable {F : FTy → Type} [FloatOps F]
variable (m : (ℓ : Loc nD τ sig) → Buf (Elt F) ℓ)

/-- The index maps over the grid: the whole arrays stay, the column blocks move with the point. -/
theorem index_facts : ∀ t : Fin cfg0.N, (grid0.coords t 0).val = t.val ∧ win0_0.index t 0 = 0 ∧ win0_1.index t 0 = 0 ∧ win0_1.index t 1 = 0 ∧
    win0_2.index t 0 = 0 ∧ win0_2.index t 1 = t.val ∧ win0_3.index t 0 = 0 ∧ win0_3.index t 1 = t.val ∧
    win0_4.index t 0 = 0 ∧ win0_4.index t 1 = 0 :=
  (by decide +kernel : ∀ t : Fin grid0.N, _)

theorem block0 (c : Dev nD) (t : Fin cfg0.N) : iblk m c 0 t = V m c main_v0 := by
  obtain ⟨-, h, -⟩ := index_facts t
  funext y
  show V m c main_v0 (((cfg0.win 0).blk t).view.emb y) = V m c main_v0 y
  congr 1
  funext a
  apply Fin.ext
  match a with
  | ⟨0, _⟩ => show win0_0.index t 0 * 1 + 1 * (y 0).val = (y 0).val; omega

theorem block1 (c : Dev nD) (t : Fin cfg0.N) : iblk m c 1 t = V m c main_v1 := by
  obtain ⟨-, -, h0, h1, -⟩ := index_facts t
  funext y
  show V m c main_v1 (((cfg0.win 1).blk t).view.emb y) = V m c main_v1 y
  congr 1
  funext a
  apply Fin.ext
  match a with
  | ⟨0, _⟩ => show win0_1.index t 0 * 128 + 1 * (y 0).val = (y 0).val; omega
  | ⟨1, _⟩ => show win0_1.index t 1 * 8192 + 1 * (y 1).val = (y 1).val; omega

theorem block2 (c : Dev nD) (t : Fin cfg0.N) (p : Fin 4096) (l : Fin 256) (L : Fin 22528) (hL : L.val = 256 * t.val + l.val) :
    iblk m c 2 t (ix2 p l) = V m c main_arg1 (ix2 p L) := by
  obtain ⟨-, -, -, -, h0, h1, -⟩ := index_facts t
  show V m c main_arg1 (((cfg0.win 2).blk t).view.emb (ix2 p l)) = V m c main_arg1 (ix2 p L)
  congr 1
  funext a
  apply Fin.ext
  match a with
  | ⟨0, _⟩ => show win0_2.index t 0 * 4096 + 1 * p.val = p.val; omega
  | ⟨1, _⟩ => show win0_2.index t 1 * 256 + 1 * l.val = L.val; omega

theorem block3 (c : Dev nD) (t : Fin cfg0.N) (p : Fin 128) (l : Fin 256) (L : Fin 22528) (hL : L.val = 256 * t.val + l.val) :
    iblk m c 3 t (ix2 p l) = V m c main_arg2 (ix2 p L) := by
  obtain ⟨-, -, -, -, -, -, h0, h1, -⟩ := index_facts t
  show V m c main_arg2 (((cfg0.win 3).blk t).view.emb (ix2 p l)) = V m c main_arg2 (ix2 p L)
  congr 1
  funext a
  apply Fin.ext
  match a with
  | ⟨0, _⟩ => show win0_3.index t 0 * 128 + 1 * p.val = p.val; omega
  | ⟨1, _⟩ => show win0_3.index t 1 * 256 + 1 * l.val = L.val; omega

theorem block4 (c : Dev nD) (t : Fin cfg0.N) : iblk m c 4 t = V m c main_arg3 := by
  obtain ⟨-, -, -, -, -, -, -, -, h0, h1⟩ := index_facts t
  funext y
  show V m c main_arg3 (((cfg0.win 4).blk t).view.emb y) = V m c main_arg3 y
  congr 1
  funext a
  apply Fin.ext
  match a with
  | ⟨0, _⟩ => show win0_4.index t 0 * 128 + 1 * (y 0).val = (y 0).val; omega
  | ⟨1, _⟩ => show win0_4.index t 1 * 88 + 1 * (y 1).val = (y 1).val; omega

/-- What a point leaves: its output block, and the stored activations. -/
def left (c : Dev nD) (t : Fin cfg0.N) : Vec F S128x256 .bf16 × Vec F S64x2x8192 .bf16 :=
  (pointOut (grid0.coords t) (iblk m c 0 t) (iblk m c 1 t) (iblk m c 2 t) (iblk m c 3 t) (iblk m c 4 t), xAll (V m c main_v1))

theorem outsAt0_first (c : Dev nD) (t : Fin cfg0.N) (h0 : t.val % 88 = 0) : outsAt0 m c t.val t.isLt = left m c t := by
  rw [outsAt0_A m c t h0, outA, soutA, block1]
  unfold left
  rw [block1]

theorem outsAt0_later (c : Dev nD) (t : Fin cfg0.N) (h0 : ¬t.val % 88 = 0)
    (ih : (outsAt0 m c (t.val - 1) (Nat.lt_of_le_of_lt (Nat.sub_le _ _) t.isLt)).2 = xAll (V m c main_v1)) :
    outsAt0 m c t.val t.isLt = left m c t := by
  rw [outsAt0_B m c t h0, ih]
  unfold left
  rw [block1, outB]
  rfl

theorem outsAt0_eq (c : Dev nD) : ∀ (n : ℕ) (hn : n < cfg0.N), outsAt0 m c n hn = left m c ⟨n, hn⟩
  | 0, hn => outsAt0_first m c ⟨0, hn⟩ (Nat.zero_mod _)
  | n + 1, hn => by
    by_cases h0 : (n + 1) % 88 = 0
    · exact outsAt0_first m c ⟨n + 1, hn⟩ h0
    · refine outsAt0_later m c ⟨n + 1, hn⟩ h0 ?_
      show (outsAt0 m c n _).2 = _
      rw [outsAt0_eq c n]
      rfl

/-- The output array at an index: the output block of the point of its columns. -/
theorem G5_apply (c : Dev nD) (t : Fin cfg0.N) (r : Fin 128) (l : Fin 256) (L : Fin 22528) (hL : L.val = 256 * t.val + l.val) :
    G5 m c (ix2 r L) = (left m c t).1 (ix2 r l) := by
  have hr := r.isLt; have hl := l.isLt
  have hp : pt5Of (ix2 r L) = t.val := by
    show 88 * (r.val / 128 - 0) + 1 * (L.val / 256 - 0) = t.val
    omega
  have hloc : loc5Of (ix2 r L) = ix2 r l := by
    funext a
    apply Fin.ext
    match a with
    | ⟨0, _⟩ => show r.val % 128 = r.val; omega
    | ⟨1, _⟩ => show L.val % 256 = l.val; omega
  unfold G5
  rw [dif_pos (by rw [hp]; exact t.isLt), hloc, fold0_congr m c _ _ _ (by rw [Nat.zero_add]; exact t.isLt) hp, ← outsAt0_sweep m c t.val t.isLt, outsAt0_eq]

end Cert.KernelIdeal.Nf4

end
-- ==== Proof.KernelValue.lean ====
/-
  The kernel's result over the extended reals: `linear` of its arguments.
-/
module

public import proofs.«01_k».proof.Proof.Array

@[expose] public section

noncomputable section

namespace Cert.KernelIdeal.Nf4

open Cert.KernelIdeal Idealize.ShloMosaic Idealize.ShloMosaic.TcCoe Cert.KernelIdeal.Gen Cert.KernelIdeal.Value Idealize.SL.Sem Cert.Nf4

variable {F : FTy → Type} [FloatOps F]
variable (m : (ℓ : Loc nD τ sig) → Buf (Elt F) ℓ)

/-- The activations the kernel reads: the argument without its unit axis. -/
theorem V_x (c : Dev nD) : (V m c main_v1 : Vec F S128x8192 .bf16) =
    shapeCast S128x8192 (m ((c : Thread nD τ).loc main_arg0) : Vec F S128x1x8192 .bf16) shapeCasts_S128x1x8192_S128x8192 := by
  unfold_abbrev_sides
  after_results
  rfl

/-- The offset the kernel reads: the argument as a vector of one element. -/
theorem V_off (c : Dev nD) : (V m c main_v0 : Vec F S1 .f32) =
    shapeCast S1 (m ((c : Thread nD τ).loc main_arg4) : Vec F S_ .f32) shapeCasts_S_S1 := by
  unfold_abbrev_sides
  after_results
  rfl

theorem cast_x (X : S128x1x8192.Idx → EReal) (r : Fin 128) (k : Fin 8192) :
    shapeCast S128x8192 X shapeCasts_S128x1x8192_S128x8192 (ix2 r k) = X (ix3 r 0 k) := by
  pointwise

theorem cast_off (X : S_.Idx → EReal) : shapeCast S1 X shapeCasts_S_S1 (ix1 0) = X ix0 := by
  pointwise

/-- The output array is `linear` of the arguments. -/
theorem G5_eq (m : (ℓ : Loc nD τ sig) → Buf (Elt Ideal) ℓ) (c : Dev nD) :
    G5 m c = linear (m ((c : Thread nD τ).loc main_arg0)) (m ((c : Thread nD τ).loc main_arg1)) (m ((c : Thread nD τ).loc main_arg2))
      (m ((c : Thread nD τ).loc main_arg3)) ((m ((c : Thread nD τ).loc main_arg4) : S_.Idx → EReal) ix0) := by
  funext i
  rw [eq_ix2 i]
  set r : Fin 128 := i 0
  set L : Fin 22528 := i 1
  have hL : L.val < 22528 := L.isLt
  let t : Fin cfg0.N := ⟨L.val / 256, lt_of_lt_of_eq (by omega) N_0.symm⟩
  have ht : (grid0.coords t 0).val = L.val / 256 := (index_facts t).1
  have hl : L.val = 256 * t.val + L.val % 256 := by show L.val = 256 * (L.val / 256) + L.val % 256; omega
  rw [G5_apply m c t r ⟨L.val % 256, Nat.mod_lt _ (by decide)⟩ L hl]
  refine (pointOut_apply (grid0.coords t) _ _ _ _ _ r _ ⟨L.val / 256, by omega⟩ ht.symm).trans ?_
  unfold linear weight scaleAt
  refine Finset.sum_congr rfl fun k _ => ?_
  have hx : (iblk m c 1 t (ix2 r k) : EReal) = (m ((c : Thread nD τ).loc main_arg0) : S128x1x8192.Idx → EReal) (ix3 r 0 k) := by
    rw [block1, V_x]
    exact cast_x _ r k
  have ho : (iblk m c 0 t (ix1 0) : EReal) = (m ((c : Thread nD τ).loc main_arg4) : S_.Idx → EReal) ix0 := by
    rw [block0, V_off]
    exact cast_off _
  have hw (p : Fin 4096) := (block2 m c t p ⟨L.val % 256, Nat.mod_lt _ (by decide)⟩ L hl).trans (congrFun (V_main_arg1 m c) _)
  have hc (p : Fin 128) := (block3 m c t p ⟨L.val % 256, Nat.mod_lt _ (by decide)⟩ L hl).trans (congrFun (V_main_arg2 m c) _)
  have hs (p : Fin 128) (g : Fin 88) : iblk m c 4 t (ix2 p g) = m ((c : Thread nD τ).loc main_arg3) (ix2 p g) :=
    (congrFun (block4 m c t) _).trans (congrFun (V_main_arg3 m c) _)
  erw [hx, ho, hw, hc, hs]
  rfl

end Cert.KernelIdeal.Nf4

end
-- ==== Proof.RefBody.lean ====
/-
  The reference's body at an index: the select tree over a nibble's four bits is the NF4 value of the nibble, each scale
  serves 32 packed rows, and the result is the sum over the even inputs plus the sum over the odd ones.
-/
module

public import proofs.«01_k».proof.Proof.Gen.ReferenceIdeal.Value
public import Idealize.ShloMosaic.Lib.Pipeline.ValueKit
public import proofs.«01_k».proof.Proof.Spec

@[expose] public section

noncomputable section

namespace Cert.ReferenceIdeal.Nf4

open Idealize.ShloMosaic Idealize.ShloMosaic.TcCoe Cert.ReferenceIdeal.Gen Cert.Nf4

variable {F : FTy → Type} [FloatOps F]

/-- The low nibble of a byte, as the reference computes it. -/
theorem low_word (b : BitVec 8) : IntOp.andi (BitVec.setWidth 32 b) 15#32 = BitVec.ofNat 32 (nibble b 0).val := by
  obtain ⟨n⟩ := b
  exact (by decide +kernel : ∀ n : Fin 256, IntOp.andi (BitVec.setWidth 32 (BitVec.ofFin n : BitVec 8)) 15#32 =
    BitVec.ofNat 32 (nibble (BitVec.ofFin n) 0).val) n

/-- The high nibble of a byte, as the reference computes it. -/
theorem high_word (b : BitVec 8) : IntOp.shrsi .vector (BitVec.setWidth 32 b) 4#32 = BitVec.ofNat 32 (nibble b 1).val := by
  obtain ⟨n⟩ := b
  exact (by decide +kernel : ∀ n : Fin 256, IntOp.shrsi .vector (BitVec.setWidth 32 (BitVec.ofFin n : BitVec 8)) 4#32 =
    BitVec.ofNat 32 (nibble (BitVec.ofFin n) 1).val) n

/-- The weights of the even inputs: the low nibbles, dequantised. -/
def wLo (A : FVec F S4096x22528 .f32) (w : Vec F S4096x22528 .i8) : FVec F S4096x22528 .bf16 :=
  k0_pay10 A (k0_pay5 w) (k0_pay6 w) (k0_pay7 w) (k0_pay8 w) (k0_pay9 w)

/-- The weights of the odd inputs: the high nibbles, dequantised. -/
def wHi (A : FVec F S4096x22528 .f32) (w : Vec F S4096x22528 .i8) : FVec F S4096x22528 .bf16 :=
  k0_pay15 A (k0_pay11 (k0_pay3 w)) (k0_pay12 (k0_pay3 w)) (k0_pay13 (k0_pay3 w)) (k0_pay14 (k0_pay3 w)) 8#32

theorem wLo_apply (A : FVec F S4096x22528 .f32) (w : Vec F S4096x22528 .i8) (p : Fin 4096) (l : Fin 22528) :
    wLo A w (ix2 p l) = FloatOps.truncf .bf16 bitsLt_bf16_f32 (FloatOps.mulf (value (nibble (w (ix2 p l)) 0)) (A (ix2 p l))) := by
  unfold wLo k0_pay10 k0_pay9 k0_pay8 k0_pay7 k0_pay6 k0_pay5 k0_pay4 k0_pay3
  pointwise
  rw [low_word]
  generalize nibble (w (ix2 p l)) 0 = n
  congr 2
  fin_cases n <;> rfl

theorem wHi_apply (A : FVec F S4096x22528 .f32) (w : Vec F S4096x22528 .i8) (p : Fin 4096) (l : Fin 22528) :
    wHi A w (ix2 p l) = FloatOps.truncf .bf16 bitsLt_bf16_f32 (FloatOps.mulf (value (nibble (w (ix2 p l)) 1)) (A (ix2 p l))) := by
  unfold wHi k0_pay15 k0_pay14 k0_pay13 k0_pay12 k0_pay11 k0_pay3
  pointwise
  rw [high_word]
  generalize nibble (w (ix2 p l)) 1 = n
  congr 2
  fin_cases n <;> rfl

/-- The scale of a packed row: that of its block of 32 rows. -/
theorem rows_apply (codes : Vec Ideal S128x22528 .i8) (sc : Vec Ideal S128x22528 .f32) (off : Vec Ideal S1x1 .f32) (p : Fin 4096) (l : Fin 22528) :
    (k0_pay2 codes sc off (ix2 p l) : EReal) =
      (FloatOps.sitofp (F := Ideal) .f32 (codes (ix2 ⟨p.val / 32, by have := p.isLt; omega⟩ l)) : EReal) *
        (sc (ix2 ⟨p.val / 32, by have := p.isLt; omega⟩ l) : EReal) + (off (ix2 0 0) : EReal) := by
  unfold k0_pay2
  pointwise

/-- The body's result is the sum of the two products. -/
theorem out_eq (x0 x1 : Vec F S128x4096 .bf16) (x2 : Vec F S4096x22528 .i8) (x3 : Vec F S128x22528 .i8) (x4 : Vec F S128x22528 .f32)
    (x5 : Vec F S1x1 .f32) :
    out0_6 x0 x1 x2 x3 x4 x5 = k0_pay1 (wHi (k0_pay2 x3 x4 x5) x2) (k0_pay16 (wLo (k0_pay2 x3 x4 x5) x2) x0) x1 := by
  unfold out0_6 k0_pay17 k0_pay18 wHi wLo
  rw [View.canon_cons_unit_lit _ _ _ (by decide), View.ld_unit_lit _ x0 (by decide), View.ld_unit_lit _ x1 (by decide),
    View.ld_unit_lit _ x2 (by decide), View.ld_unit_lit _ x3 (by decide), View.ld_unit_lit _ x4 (by decide), View.ld_unit_lit _ x5 (by decide)]

/-- The body's result at an index. -/
theorem out_apply (x0 x1 : Vec Ideal S128x4096 .bf16) (x2 : Vec Ideal S4096x22528 .i8) (x3 : Vec Ideal S128x22528 .i8)
    (x4 : Vec Ideal S128x22528 .f32) (x5 : Vec Ideal S1x1 .f32) (r : Fin 128) (l : Fin 22528) :
    (out0_6 x0 x1 x2 x3 x4 x5 (ix2 r l) : EReal) =
      ∑ p : Fin 4096, (x0 (ix2 r p) : EReal) * ((value (F := Ideal) (nibble (x2 (ix2 p l)) 0) : EReal) * (k0_pay2 x3 x4 x5 (ix2 p l) : EReal)) +
      ∑ p : Fin 4096, (x1 (ix2 r p) : EReal) * ((value (F := Ideal) (nibble (x2 (ix2 p l)) 1) : EReal) * (k0_pay2 x3 x4 x5 (ix2 p l) : EReal)) := by
  rw [out_eq]
  unfold k0_pay1 k0_pay16
  pointwise [wLo_apply, wHi_apply]

end Cert.ReferenceIdeal.Nf4

end
-- ==== Proof.RefValue.lean ====
/-
  The reference's result over the extended reals: `linear` of its arguments. The products of the even and of the odd
  inputs are one sum over all inputs, in another order.
-/
module

public import proofs.«01_k».proof.Proof.RefBody
public import proofs.«01_k».proof.Proof.Sums

@[expose] public section

noncomputable section

namespace Cert.ReferenceIdeal.Nf4

open Cert.ReferenceIdeal Idealize.ShloMosaic Idealize.ShloMosaic.TcCoe Cert.ReferenceIdeal.Gen Cert.ReferenceIdeal.Value Idealize.SL.Sem Cert.Nf4

variable {F : FTy → Type} [FloatOps F]

/-! ## The arrays the reference's host part prepares -/

/-- The even inputs. -/
def evens (X : Vec F S128x1x8192 .bf16) : Vec F S128x4096 .bf16 :=
  shapeCast S128x4096 (extractStridedSlice S128x4096x1 ![0, 0, 0] (shapeCast S128x4096x2 X shapeCasts_S128x1x8192_S128x4096x2) slices_S128x4096x2_S128x4096x1_0_0_0)
    shapeCasts_S128x4096x1_S128x4096

/-- The odd inputs. -/
def odds (X : Vec F S128x1x8192 .bf16) : Vec F S128x4096 .bf16 :=
  shapeCast S128x4096 (extractStridedSlice S128x4096x1 ![0, 0, 1] (shapeCast S128x4096x2 X shapeCasts_S128x1x8192_S128x4096x2) slices_S128x4096x2_S128x4096x1_0_0_1)
    shapeCasts_S128x4096x1_S128x4096

/-- The second-level scales, one per column: each serves 256 columns. -/
def columns (S : Vec F S128x88 .f32) : Vec F S128x22528 .f32 :=
  shapeCast S128x22528 (broadcastInDim S128x88x256 ![0, 1] bcast_S128x88_S128x88x256_0_1 S) shapeCasts_S128x88x256_S128x22528

/-- The offset, as a matrix of one element. -/
def offset (O : Vec F S_ .f32) : Vec F S1x1 .f32 := shapeCast S1x1 O shapeCasts_S_S1x1

theorem evens_apply (X : Vec F S128x1x8192 .bf16) (r : Fin 128) (p : Fin 4096) :
    evens X (ix2 r p) = X (ix3 r 0 ⟨2 * p.val, by have := p.isLt; omega⟩) := by
  have h : p.val * 2 = 2 * p.val := Nat.mul_comm _ _
  unfold evens
  pointwise
  simp only [h]

theorem odds_apply (X : Vec F S128x1x8192 .bf16) (r : Fin 128) (p : Fin 4096) :
    odds X (ix2 r p) = X (ix3 r 0 ⟨2 * p.val + 1, by have := p.isLt; omega⟩) := by
  have h : p.val * 2 = 2 * p.val := Nat.mul_comm _ _
  unfold odds
  pointwise
  simp only [h]

theorem columns_apply (S : Vec F S128x88 .f32) (b : Fin 128) (l : Fin 22528) :
    columns S (ix2 b l) = S (ix2 b ⟨l.val / 256, by have := l.isLt; omega⟩) := by
  unfold columns
  pointwise

theorem offset_apply (O : Vec F S_ .f32) : offset O (ix2 0 0) = O ix0 := by
  unfold offset
  pointwise

/-- The nibble of an even input is the low one, that of an odd input the high one. -/
theorem nibble_even (b : BitVec 8) (p : ℕ) : nibble b (2 * p) = nibble b 0 := by
  unfold nibble
  simp

theorem nibble_odd (b : BitVec 8) (p : ℕ) : nibble b (2 * p + 1) = nibble b 1 := by
  unfold nibble
  simp [Nat.add_mod]

/-- The weight of an even input. -/
theorem weight_even (W : S4096x22528.Idx → BitVec 8) (C : S128x22528.Idx → BitVec 8) (S : S128x88.Idx → EReal) (o : EReal) (p : Fin 4096) (l : Fin 22528) :
    weight W C S o ⟨2 * p.val, by have := p.isLt; omega⟩ l =
      (value (F := Ideal) (nibble (W (ix2 p l)) 0) : EReal) * scaleAt C S o ⟨p.val / 32, by have := p.isLt; omega⟩ l := by
  have h1 : 2 * p.val / 2 = p.val := by omega
  have h2 : 2 * p.val / 64 = p.val / 32 := by omega
  unfold weight
  simp only [nibble_even, h1, h2, Fin.eta]

/-- The weight of an odd input. -/
theorem weight_odd (W : S4096x22528.Idx → BitVec 8) (C : S128x22528.Idx → BitVec 8) (S : S128x88.Idx → EReal) (o : EReal) (p : Fin 4096) (l : Fin 22528) :
    weight W C S o ⟨2 * p.val + 1, by have := p.isLt; omega⟩ l =
      (value (F := Ideal) (nibble (W (ix2 p l)) 1) : EReal) * scaleAt C S o ⟨p.val / 32, by have := p.isLt; omega⟩ l := by
  have h1 : (2 * p.val + 1) / 2 = p.val := by omega
  have h2 : (2 * p.val + 1) / 64 = p.val / 32 := by omega
  unfold weight
  simp only [nibble_odd, h1, h2, Fin.eta]

/-- The scale of a packed row, over the prepared arrays. -/
theorem scale_apply (C : Vec Ideal S128x22528 .i8) (S : Vec Ideal S128x88 .f32) (O : Vec Ideal S_ .f32) (p : Fin 4096) (l : Fin 22528) :
    (k0_pay2 C (columns S) (offset O) (ix2 p l) : EReal) = scaleAt C S (O ix0) ⟨p.val / 32, by have := p.isLt; omega⟩ l := by
  refine (rows_apply C (columns S) (offset O) p l).trans ?_
  rw [columns_apply, offset_apply]
  rfl

/-- The body over the prepared arrays is `linear` of the arguments. -/
theorem out_linear (X : Vec Ideal S128x1x8192 .bf16) (W : Vec Ideal S4096x22528 .i8) (C : Vec Ideal S128x22528 .i8) (S : Vec Ideal S128x88 .f32)
    (O : Vec Ideal S_ .f32) :
    out0_6 (evens X) (odds X) W C (columns S) (offset O) = linear X W C S (O ix0) := by
  funext i
  rw [eq_ix2 i]
  refine (out_apply _ _ _ _ _ _ (i 0) (i 1)).trans ?_
  refine Eq.trans ?_ (sum_even_odd (fun k => (X (ix3 (i 0) 0 k) : EReal) * weight W C S (O ix0) k (i 1)))
  refine congrArg₂ (fun a b : EReal => a + b) (Finset.sum_congr rfl fun p _ => ?_) (Finset.sum_congr rfl fun p _ => ?_)
  · refine congrArg₂ (fun a b : EReal => a * b) (evens_apply X (i 0) p) (Eq.trans ?_ (weight_even W C S (O ix0) p (i 1)).symm)
    exact congrArg (fun b : EReal => _ * b) (scale_apply C S O p (i 1))
  · refine congrArg₂ (fun a b : EReal => a * b) (odds_apply X (i 0) p) (Eq.trans ?_ (weight_odd W C S (O ix0) p (i 1)).symm)
    exact congrArg (fun b : EReal => _ * b) (scale_apply C S O p (i 1))

/-! ## The arrays of a run -/

variable (m : (ℓ : Loc nD τ sig) → Buf (Elt F) ℓ)

theorem V_evens (c : Dev nD) : (V m c main_v2 : Vec F S128x4096 .bf16) = evens (m ((c : Thread nD τ).loc main_arg0)) := by
  unfold_abbrev_sides
  after_results
  rfl

theorem V_odds (c : Dev nD) : (V m c main_v4 : Vec F S128x4096 .bf16) = odds (m ((c : Thread nD τ).loc main_arg0)) := by
  unfold_abbrev_sides
  after_results
  rfl

theorem V_columns (c : Dev nD) : (V m c main_v6 : Vec F S128x22528 .f32) = columns (m ((c : Thread nD τ).loc main_arg3)) := by
  unfold_abbrev_sides
  after_results
  rfl

theorem V_offset (c : Dev nD) : (V m c main_v7 : Vec F S1x1 .f32) = offset (m ((c : Thread nD τ).loc main_arg4)) := by
  unfold_abbrev_sides
  after_results
  rfl

/-- Every window of the one point is its whole array. -/
theorem index_facts : ∀ t : Fin cfg0.N, ∀ a : Fin 2, win0_0.index t a = 0 ∧ win0_1.index t a = 0 ∧ win0_2.index t a = 0 ∧ win0_3.index t a = 0 ∧
    win0_4.index t a = 0 ∧ win0_5.index t a = 0 ∧ win0_6.index t a = 0 :=
  (by decide +kernel : ∀ t : Fin grid0.N, ∀ a : Fin 2, _)

theorem emb0 (t : Fin cfg0.N) (y : S128x4096.Idx) : ((cfg0.win 0).blk t).view.emb y = y := by
  obtain ⟨h0, -⟩ := index_facts t 0
  obtain ⟨h1, -⟩ := index_facts t 1
  funext a
  apply Fin.ext
  match a with
  | ⟨0, _⟩ => show win0_0.index t 0 * 128 + 1 * (y 0).val = (y 0).val; omega
  | ⟨1, _⟩ => show win0_0.index t 1 * 4096 + 1 * (y 1).val = (y 1).val; omega

theorem emb1 (t : Fin cfg0.N) (y : S128x4096.Idx) : ((cfg0.win 1).blk t).view.emb y = y := by
  obtain ⟨-, h0, -⟩ := index_facts t 0
  obtain ⟨-, h1, -⟩ := index_facts t 1
  funext a
  apply Fin.ext
  match a with
  | ⟨0, _⟩ => show win0_1.index t 0 * 128 + 1 * (y 0).val = (y 0).val; omega
  | ⟨1, _⟩ => show win0_1.index t 1 * 4096 + 1 * (y 1).val = (y 1).val; omega

theorem emb2 (t : Fin cfg0.N) (y : S4096x22528.Idx) : ((cfg0.win 2).blk t).view.emb y = y := by
  obtain ⟨-, -, h0, -⟩ := index_facts t 0
  obtain ⟨-, -, h1, -⟩ := index_facts t 1
  funext a
  apply Fin.ext
  match a with
  | ⟨0, _⟩ => show win0_2.index t 0 * 4096 + 1 * (y 0).val = (y 0).val; omega
  | ⟨1, _⟩ => show win0_2.index t 1 * 22528 + 1 * (y 1).val = (y 1).val; omega

theorem emb3 (t : Fin cfg0.N) (y : S128x22528.Idx) : ((cfg0.win 3).blk t).view.emb y = y := by
  obtain ⟨-, -, -, h0, -⟩ := index_facts t 0
  obtain ⟨-, -, -, h1, -⟩ := index_facts t 1
  funext a
  apply Fin.ext
  match a with
  | ⟨0, _⟩ => show win0_3.index t 0 * 128 + 1 * (y 0).val = (y 0).val; omega
  | ⟨1, _⟩ => show win0_3.index t 1 * 22528 + 1 * (y 1).val = (y 1).val; omega

theorem emb4 (t : Fin cfg0.N) (y : S128x22528.Idx) : ((cfg0.win 4).blk t).view.emb y = y := by
  obtain ⟨-, -, -, -, h0, -⟩ := index_facts t 0
  obtain ⟨-, -, -, -, h1, -⟩ := index_facts t 1
  funext a
  apply Fin.ext
  match a with
  | ⟨0, _⟩ => show win0_4.index t 0 * 128 + 1 * (y 0).val = (y 0).val; omega
  | ⟨1, _⟩ => show win0_4.index t 1 * 22528 + 1 * (y 1).val = (y 1).val; omega

theorem emb5 (t : Fin cfg0.N) (y : S1x1.Idx) : ((cfg0.win 5).blk t).view.emb y = y := by
  obtain ⟨-, -, -, -, -, h0, -⟩ := index_facts t 0
  obtain ⟨-, -, -, -, -, h1, -⟩ := index_facts t 1
  funext a
  apply Fin.ext
  match a with
  | ⟨0, _⟩ => show win0_5.index t 0 * 1 + 1 * (y 0).val = (y 0).val; omega
  | ⟨1, _⟩ => show win0_5.index t 1 * 1 + 1 * (y 1).val = (y 1).val; omega

theorem emb6 (t : Fin cfg0.N) (y : S128x22528.Idx) : ((cfg0.win 6).blk t).view.emb y = y := by
  obtain ⟨-, -, -, -, -, -, h0⟩ := index_facts t 0
  obtain ⟨-, -, -, -, -, -, h1⟩ := index_facts t 1
  funext a
  apply Fin.ext
  match a with
  | ⟨0, _⟩ => show win0_6.index t 0 * 128 + 1 * (y 0).val = (y 0).val; omega
  | ⟨1, _⟩ => show win0_6.index t 1 * 22528 + 1 * (y 1).val = (y 1).val; omega

theorem block0 (c : Dev nD) (t : Fin cfg0.N) : iblk m c 0 t = V m c main_v2 := funext fun y => congrArg (V m c main_v2) (emb0 t y)
theorem block1 (c : Dev nD) (t : Fin cfg0.N) : iblk m c 1 t = V m c main_v4 := funext fun y => congrArg (V m c main_v4) (emb1 t y)
theorem block2 (c : Dev nD) (t : Fin cfg0.N) : iblk m c 2 t = V m c main_arg1 := funext fun y => congrArg (V m c main_arg1) (emb2 t y)
theorem block3 (c : Dev nD) (t : Fin cfg0.N) : iblk m c 3 t = V m c main_arg2 := funext fun y => congrArg (V m c main_arg2) (emb3 t y)
theorem block4 (c : Dev nD) (t : Fin cfg0.N) : iblk m c 4 t = V m c main_v6 := funext fun y => congrArg (V m c main_v6) (emb4 t y)
theorem block5 (c : Dev nD) (t : Fin cfg0.N) : iblk m c 5 t = V m c main_v7 := funext fun y => congrArg (V m c main_v7) (emb5 t y)

/-- Reading the output's one block reads the array. -/
theorem read6 (A : Vec F S128x22528 .bf16) (t : Fin cfg0.N) (y : S128x22528.Idx) : ((cfg0.win 6).blk t).view.read (Elt F) A y = A y :=
  congrArg A (emb6 t y)

theorem out_congr {x0 y0 x1 y1 : Vec F S128x4096 .bf16} {x2 y2 : Vec F S4096x22528 .i8} {x3 y3 : Vec F S128x22528 .i8} {x4 y4 : Vec F S128x22528 .f32}
    {x5 y5 : Vec F S1x1 .f32} (h0 : x0 = y0) (h1 : x1 = y1) (h2 : x2 = y2) (h3 : x3 = y3) (h4 : x4 = y4) (h5 : x5 = y5) :
    out0_6 x0 x1 x2 x3 x4 x5 = out0_6 y0 y1 y2 y3 y4 y5 := by
  rw [h0, h1, h2, h3, h4, h5]

/-- The final array is what the one point writes back: the body over the prepared arrays. -/
theorem final (c : Dev nD) : ((dats m 0 c).arrAt 6 cfg0.N : Vec F S128x22528 .bf16) =
    out0_6 (evens (m ((c : Thread nD τ).loc main_arg0))) (odds (m ((c : Thread nD τ).loc main_arg0))) (m ((c : Thread nD τ).loc main_arg1))
      (m ((c : Thread nD τ).loc main_arg2)) (columns (m ((c : Thread nD τ).loc main_arg3))) (offset (m ((c : Thread nD τ).loc main_arg4))) := by
  have h := (blocks6 m c t0_0 (flush0_6 t0_0)).trans (flushed6 m c t0_0)
  have e := out_congr ((block0 m c t0_0).trans (V_evens m c)) ((block1 m c t0_0).trans (V_odds m c)) ((block2 m c t0_0).trans (V_main_arg1 m c))
    ((block3 m c t0_0).trans (V_main_arg2 m c)) ((block4 m c t0_0).trans (V_columns m c)) ((block5 m c t0_0).trans (V_offset m c))
  funext y
  refine Eq.trans ?_ (congrFun e y)
  exact (read6 _ t0_0 y).symm.trans (congrFun h y)

/-- The reference's result array is `linear` of its arguments. -/
theorem final_linear (m : (ℓ : Loc nD τ sig) → Buf (Elt Ideal) ℓ) (c : Dev nD) : (dats m 0 c).arrAt 6 cfg0.N =
    linear (m ((c : Thread nD τ).loc main_arg0)) (m ((c : Thread nD τ).loc main_arg1)) (m ((c : Thread nD τ).loc main_arg2))
      (m ((c : Thread nD τ).loc main_arg3)) ((m ((c : Thread nD τ).loc main_arg4) : S_.Idx → EReal) ix0) :=
  (final m c).trans (out_linear _ _ _ _ _)

end Cert.ReferenceIdeal.Nf4

end
-- ==== Proof.Algebraic.lean ====
/-
  Over the extended reals the kernel and the reference end with the same result: both are `linear` of the arguments.
-/
module

public import proofs.«01_k».proof.Proof.KernelValue
public import proofs.«01_k».proof.Proof.RefValue
public import proofs.«01_k».proof.Defs

@[expose] public section

noncomputable section

namespace Cert.Proof

open Cert Idealize.ShloMosaic Idealize.ShloMosaic.TcCoe Idealize.SL.Sem Cert.Nf4

theorem linear_congr {x y : (⟨3, ![128, 1, 8192]⟩ : Shape).Idx → EReal} {w w' : (⟨2, ![4096, 22528]⟩ : Shape).Idx → BitVec 8}
    {a a' : (⟨2, ![128, 22528]⟩ : Shape).Idx → BitVec 8} {s s' : (⟨2, ![128, 88]⟩ : Shape).Idx → EReal} {o o' : (⟨0, ![]⟩ : Shape).Idx → EReal}
    (h0 : x = y) (h1 : w = w') (h2 : a = a') (h3 : s = s') (h4 : o = o') : linear x w a s (o ix0) = linear y w' a' s' (o' ix0) := by
  rw [h0, h1, h2, h3, h4]

theorem algebraic : algebraic_KernelIdeal_ReferenceIdeal (hKernelIdeal := Cert.KernelIdeal.Gen.facts) (hReferenceIdeal := Cert.ReferenceIdeal.Gen.facts) := by
  intro m g m' g' _ hargs
  refine ⟨fun c => Cert.KernelIdeal.Value.G5 m c, Cert.KernelIdeal.Value.run m g, ?_⟩
  refine (θ_run _ _ _).mono (fun r h c => ?_) (Cert.ReferenceIdeal.Value.run_blocks m' g')
  obtain ⟨h8, hk⟩ := h c
  obtain ⟨e0, e1, e2, e3, e4⟩ := hargs c
  refine ⟨?_, hk⟩
  refine (h8.trans (Cert.ReferenceIdeal.Nf4.final_linear m' c)).trans ?_
  exact (linear_congr e0 e1 e2 e3 e4).trans (Cert.KernelIdeal.Nf4.G5_eq m c).symm

end Cert.Proof

end
-- ==== Proof.lean ====
module

public import proofs.«01_k».proof.Proof.Frames
public import proofs.«01_k».proof.Proof.Algebraic

@[expose] public section

namespace Cert.Proof

theorem claim : Cert.Claim :=
  ⟨Cert.Kernel.Gen.facts, Cert.KernelIdeal.Gen.facts, Cert.ReferenceIdeal.Gen.facts,
    frame_p, frame_pi, frame_ri, preserves, algebraic⟩

end Cert.Proof
